-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v10) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x3 : Shape := ⟨3, ![4, 4096, 3]⟩
abbrev S4x3x4096 : Shape := ⟨3, ![4, 3, 4096]⟩
abbrev S4x3x32x128 : Shape := ⟨4, ![4, 3, 32, 128]⟩
abbrev S1x4x3x32x128 : Shape := ⟨5, ![1, 4, 3, 32, 128]⟩
abbrev S2x4x3x32x128 : Shape := ⟨5, ![2, 4, 3, 32, 128]⟩
abbrev S1x4x3x4096 : Shape := ⟨4, ![1, 4, 3, 4096]⟩
abbrev S2x4x3x4096 : Shape := ⟨4, ![2, 4, 3, 4096]⟩
abbrev S2x4x3x4096x1 : Shape := ⟨5, ![2, 4, 3, 4096, 1]⟩
abbrev S2x4x3x4096x128 : Shape := ⟨5, ![2, 4, 3, 4096, 128]⟩
abbrev S4096 : Shape := ⟨1, ![4096]⟩
abbrev S4096x1 : Shape := ⟨2, ![4096, 1]⟩
abbrev S4096x128 : Shape := ⟨2, ![4096, 128]⟩
abbrev S2x4x32x128 : Shape := ⟨4, ![2, 4, 32, 128]⟩
abbrev S1x1x3x32x128 : Shape := ⟨5, ![1, 1, 3, 32, 128]⟩
abbrev S1x1x3x4096x128 : Shape := ⟨5, ![1, 1, 3, 4096, 128]⟩
abbrev S1x1x32x128 : Shape := ⟨4, ![1, 1, 32, 128]⟩
abbrev S1x1x1x32x128 : Shape := ⟨5, ![1, 1, 1, 32, 128]⟩
abbrev S32x128 : Shape := ⟨2, ![32, 128]⟩
abbrev S1x1x1x16x128 : Shape := ⟨5, ![1, 1, 1, 16, 128]⟩
abbrev S16x128 : Shape := ⟨2, ![16, 128]⟩
abbrev S1x128 : Shape := ⟨2, ![1, 128]⟩
abbrev S1x4x32x128 : Shape := ⟨4, ![1, 4, 32, 128]⟩
abbrev S4x32x128 : Shape := ⟨3, ![4, 32, 128]⟩
abbrev S4x4096 : Shape := ⟨2, ![4, 4096]⟩

abbrev nBuf : Space → Nat
  | .hbm => 31
  | .vmem => 9
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x3x4096, .f32⟩
  | .hbm, ⟨4, _⟩ => ⟨S4x3x32x128, .f32⟩
  | .hbm, ⟨5, _⟩ => ⟨S4x3x32x128, .f32⟩
  | .hbm, ⟨6, _⟩ => ⟨S1x4x3x32x128, .f32⟩
  | .hbm, ⟨7, _⟩ => ⟨S1x4x3x32x128, .f32⟩
  | .hbm, ⟨8, _⟩ => ⟨S2x4x3x32x128, .f32⟩
  | .hbm, ⟨9, _⟩ => ⟨S1x4x3x4096, .f32⟩
  | .hbm, ⟨10, _⟩ => ⟨S1x4x3x4096, .f32⟩
  | .hbm, ⟨11, _⟩ => ⟨S2x4x3x4096, .f32⟩
  | .hbm, ⟨12, _⟩ => ⟨S2x4x3x4096x1, .f32⟩
  | .hbm, ⟨13, _⟩ => ⟨S2x4x3x4096x128, .f32⟩
  | .hbm, ⟨14, _⟩ => ⟨S4096, .i32⟩
  | .hbm, ⟨15, _⟩ => ⟨S4096x1, .i32⟩
  | .hbm, ⟨16, _⟩ => ⟨S4096x128, .i32⟩
  | .hbm, ⟨17, _⟩ => ⟨S2x4x32x128, .f32⟩
  | .hbm, ⟨18, _⟩ => ⟨S2x4x32x128, .i32⟩
  | .hbm, ⟨19, _⟩ => ⟨S1x4x32x128, .f32⟩
  | .hbm, ⟨20, _⟩ => ⟨S4x32x128, .f32⟩
  | .hbm, ⟨21, _⟩ => ⟨S4x4096, .f32⟩
  | .hbm, ⟨22, _⟩ => ⟨S1x4x32x128, .i32⟩
  | .hbm, ⟨23, _⟩ => ⟨S4x32x128, .i32⟩
  | .hbm, ⟨24, _⟩ => ⟨S4x4096, .i32⟩
  | .hbm, ⟨25, _⟩ => ⟨S1x4x32x128, .f32⟩
  | .hbm, ⟨26, _⟩ => ⟨S4x32x128, .f32⟩
  | .hbm, ⟨27, _⟩ => ⟨S4x4096, .f32⟩
  | .hbm, ⟨28, _⟩ => ⟨S1x4x32x128, .i32⟩
  | .hbm, ⟨29, _⟩ => ⟨S4x32x128, .i32⟩
  | .hbm, ⟨30, _⟩ => ⟨S4x4096, .i32⟩
  | .local _ .vmem, ⟨0, _⟩ => ⟨S1x1x3x32x128, .f32⟩
  | .local _ .vmem, ⟨1, _⟩ => ⟨S1x1x3x32x128, .f32⟩
  | .local _ .vmem, ⟨2, _⟩ => ⟨S1x1x3x4096x128, .f32⟩
  | .local _ .vmem, ⟨3, _⟩ => ⟨S1x1x3x4096x128, .f32⟩
  | .local _ .vmem, ⟨4, _⟩ => ⟨S4096x128, .i32⟩
  | .local _ .vmem, ⟨5, _⟩ => ⟨S1x1x32x128, .f32⟩
  | .local _ .vmem, ⟨6, _⟩ => ⟨S1x1x32x128, .f32⟩
  | .local _ .vmem, ⟨7, _⟩ => ⟨S1x1x32x128, .i32⟩
  | .local _ .vmem, ⟨8, _⟩ => ⟨S1x1x32x128, .i32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15_0 : Ref sig .tc := ⟨.hbm, 17, rfl⟩
abbrev main_v15_1 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_12 : BitVec 32 := 0#32
  let c256_i32 : BitVec 32 := 256#32
  let v8 : BitVec 32 := Scalar.addi c0_i32_12 c256_i32
  let c1_i32 : BitVec 32 := 1#32
  ⟨c0_i32_12, v8, c1_i32⟩
def k0_off1 (k0_t1 : Fin k0_t1_loop.trips) : Fin 5 → Nat :=
  let c0_22 : Index := 0#32
  let c0_23 : Index := 0#32
  let c0_24 : Index := 0#32
  let c0_i32_12 : BitVec 32 := 0#32
  let c1_i32 : BitVec 32 := 1#32
  let arg7 : BitVec 32 := Scf.iv c0_i32_12 c1_i32 k0_t1
  let c16_i32 : BitVec 32 := 16#32
  let v23 : BitVec 32 := Scalar.muli arg7 c16_i32
  let v24 : Index := Scalar.indexCast v23
  let c0_25 : Index := 0#32
  ![0, 0, 0, v24.toNat, 0]
def k0_off2 (k0_t1 : Fin k0_t1_loop.trips) : Fin 5 → Nat :=
  let c0_26 : Index := 0#32
  let c0_27 : Index := 0#32
  let c1_28 : Index := 1#32
  let c0_i32_12 : BitVec 32 := 0#32
  let c1_i32 : BitVec 32 := 1#32
  let arg7 : BitVec 32 := Scf.iv c0_i32_12 c1_i32 k0_t1
  let c16_i32 : BitVec 32 := 16#32
  let v23 : BitVec 32 := Scalar.muli arg7 c16_i32
  let v27 : Index := Scalar.indexCast v23
  let c0_29 : Index := 0#32
  ![0, 0, 1, v27.toNat, 0]
def k0_off3 (k0_t1 : Fin k0_t1_loop.trips) : Fin 5 → Nat :=
  let c0_30 : Index := 0#32
  let c0_31 : Index := 0#32
  let c2_32 : Index := 2#32
  let c0_i32_12 : BitVec 32 := 0#32
  let c1_i32 : BitVec 32 := 1#32
  let arg7 : BitVec 32 := Scf.iv c0_i32_12 c1_i32 k0_t1
  let c16_i32 : BitVec 32 := 16#32
  let v23 : BitVec 32 := Scalar.muli arg7 c16_i32
  let v30 : Index := Scalar.indexCast v23
  let c0_33 : Index := 0#32
  ![0, 0, 2, v30.toNat, 0]
def k0_off4 (k0_t1 : Fin k0_t1_loop.trips) : Fin 2 → Nat :=
  let c0_i32_12 : BitVec 32 := 0#32
  let c1_i32 : BitVec 32 := 1#32
  let arg7 : BitVec 32 := Scf.iv c0_i32_12 c1_i32 k0_t1
  let c16_i32 : BitVec 32 := 16#32
  let v23 : BitVec 32 := Scalar.muli arg7 c16_i32
  let v33 : Index := Scalar.indexCast v23
  let c0_34 : Index := 0#32
  ![v33.toNat, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x3x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x32x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S4x4096x4096, .i32⟩
  | .hbm, ⟨13, _⟩ => ⟨S_, .f32⟩
  | .hbm, ⟨14, _⟩ => ⟨S_, .i32⟩
  | .hbm, ⟨15, _⟩ => ⟨S4x4096, .f32⟩
  | .hbm, ⟨16, _⟩ => ⟨S4x4096, .i32⟩
  | .hbm, ⟨17, _⟩ => ⟨S_, .f32⟩
  | .hbm, ⟨18, _⟩ => ⟨S4x4096, .f32⟩
  | .hbm, ⟨19, _⟩ => ⟨S4x4096x4096, .i32⟩
  | .hbm, ⟨20, _⟩ => ⟨S_, .f32⟩
  | .hbm, ⟨21, _⟩ => ⟨S_, .i32⟩
  | .hbm, ⟨22, _⟩ => ⟨S4x4096, .f32⟩
  | .hbm, ⟨23, _⟩ => ⟨S4x4096, .i32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_c : Ref sig .tc := ⟨.hbm, 21, rfl⟩
abbrev main_call1_v1_0 : Ref sig .tc := ⟨.hbm, 22, rfl⟩
abbrev main_v10 : Ref sig .tc := ⟨.hbm, 23, rfl⟩

abbrev nD : Nat := 1
abbrev τ : Topo := Topo.v7x

variable {F : FTy → Type} [FloatOps F]
-- ==== Proof.Nearest.lean ====
/- The mathematics both programs share: the first nearest point of a list of distances, as the least pair
   (distance, position) in lexicographic order. -/
module

public import Idealize.ShloMosaic.PureOps.Ideal
public import Mathlib.Data.Prod.Lex
public import Mathlib.Data.EReal.Operations

@[expose] public section

noncomputable section

namespace Cert.Nearest

/-- A candidate: a distance and the position it was found at, ordered by distance first and by position second. -/
abbrev Cand : Type := EReal ×ₗ ℕ

/-- The candidate with distance `v` found at position `n`. -/
abbrev cand (v : EReal) (n : ℕ) : Cand := toLex (v, n)

/-- The candidate every search starts from: an infinite distance at position 0. -/
abbrev start : Cand := cand ⊤ 0

/-- The least of the first `n` candidates of `g` (and of `start`). -/
def best (g : ℕ → Cand) : ℕ → Cand
  | 0 => start
  | n + 1 => min (best g n) (g n)

/-- `best g n` is the greatest lower bound of `start` and the first `n` candidates. -/
theorem le_best (g : ℕ → Cand) (n : ℕ) (c : Cand) : c ≤ best g n ↔ c ≤ start ∧ ∀ j < n, c ≤ g j := by
  induction n with
  | zero => simp [best]
  | succ n ih =>
    rw [best, le_min_iff, ih, Nat.forall_lt_succ_right, and_assoc]

/-- The first nearest of the 4096 distances `f`: the least distance, and the least position it is found at. -/
def nearest (f : ℕ → EReal) : Cand := best (fun n => cand (f n) n) 4096

/-- The candidates at the even positions, and those at the odd positions. -/
abbrev evens (f : ℕ → EReal) (n : ℕ) : Cand := cand (f (2 * n)) (2 * n)
abbrev odds (f : ℕ → EReal) (n : ℕ) : Cand := cand (f (2 * n + 1)) (2 * n + 1)

/-- The best of the even positions and the best of the odd ones, together, are the best of all. -/
theorem min_evens_odds (f : ℕ → EReal) : min (best (evens f) 2048) (best (odds f) 2048) = nearest f := by
  refine eq_of_forall_le_iff fun c => ?_
  rw [le_min_iff, le_best, le_best, nearest, le_best]
  refine ⟨fun h => ⟨h.1.1, fun j hj => ?_⟩, fun h => ⟨⟨h.1, fun j hj => h.2 _ (by omega)⟩, h.1, fun j hj => h.2 _ (by omega)⟩⟩
  rcases Nat.even_or_odd' j with ⟨k, rfl | rfl⟩
  · exact h.1.2 k (by omega)
  · exact h.2.2 k (by omega)

/-- The update that replaces the candidate held only by a strictly smaller distance takes the lesser candidate, when the
    new one's position is not before the one held. -/
theorem take_eq_min (v d : EReal) (i n : ℕ) (h : i ≤ n) :
    cand (if d < v then d else v) (if d < v then n else i) = min (cand v i) (cand d n) := by
  by_cases hd : d < v
  · rw [if_pos hd, if_pos hd, min_eq_right]
    exact (Prod.Lex.toLex_le_toLex).2 (Or.inl hd)
  · rw [if_neg hd, if_neg hd, min_eq_left]
    rcases lt_or_eq_of_le (not_lt.1 hd) with hv | hv
    · exact (Prod.Lex.toLex_le_toLex).2 (Or.inl hv)
    · exact (Prod.Lex.toLex_le_toLex).2 (Or.inr ⟨hv, h⟩)

/-- Choosing between two candidates by distance, and by position at equal distances, takes the lesser. -/
theorem merge_eq_min (v w : EReal) (i j : ℕ) :
    cand (if w < v ∨ (w = v ∧ j < i) then w else v) (if w < v ∨ (w = v ∧ j < i) then j else i)
      = min (cand v i) (cand w j) := by
  by_cases h : w < v ∨ (w = v ∧ j < i)
  · rw [if_pos h, if_pos h, min_eq_right]
    refine (Prod.Lex.toLex_le_toLex).2 ?_
    rcases h with h | ⟨h, h'⟩
    · exact Or.inl h
    · exact Or.inr ⟨h, h'.le⟩
  · rw [if_neg h, if_neg h, min_eq_left]
    rw [not_or] at h
    refine (Prod.Lex.toLex_le_toLex).2 ?_
    rcases lt_or_eq_of_le (not_lt.1 h.1) with hv | hv
    · exact Or.inl hv
    · exact Or.inr ⟨hv, not_lt.1 fun hj => h.2 ⟨hv.symm, hj⟩⟩

/-- The position of the best candidate is at most a bound on the positions of all. -/
theorem best_pos_le (g : ℕ → Cand) (n b : ℕ) (h : ∀ j < n, (ofLex (g j)).2 ≤ b) : (ofLex (best g n)).2 ≤ b := by
  induction n with
  | zero => exact Nat.zero_le _
  | succ n ih =>
    rw [best]
    rcases min_choice (best g n) (g n) with e | e <;> rw [e]
    · exact ih fun j hj => h j (by omega)
    · exact h n (by omega)

/-- The nearest position is one of the 4096. -/
theorem nearest_pos_lt (f : ℕ → EReal) : (ofLex (nearest f)).2 < 4096 :=
  Nat.lt_succ_of_le (best_pos_le _ _ 4095 fun j hj => by show j ≤ 4095; omega)

/-- The square of a difference does not depend on its direction, the infinite values included. -/
theorem sub_mul_self_comm (a b : EReal) : (a - b) * (a - b) = (b - a) * (b - a) := by
  induction a with
  | bot => induction b with
    | bot => rfl
    | top => simp
    | coe b => simp
  | top => induction b with
    | bot => simp
    | top => rfl
    | coe b => simp
  | coe a => induction b with
    | bot => simp
    | top => simp
    | coe b => norm_cast; ring

end Cert.Nearest

end
-- ==== Proof.Spec.lean ====
/- What both programs are proved to compute: for each point of one cloud, the least squared distance to the other cloud
   and the first position it is attained at. -/
module

public import proofs.«01_k».proof.Proof.Nearest
public import Idealize.ShloMosaic.Lib.Pointwise

@[expose] public section

noncomputable section

namespace Cert.Spec

open Idealize.ShloMosaic Cert.Nearest

/-- Four clouds of 4096 points of three coordinates. -/
abbrev SCloud : Shape := ⟨3, ![4, 4096, 3]⟩
/-- One value for each point of the four clouds. -/
abbrev SPts : Shape := ⟨2, ![4, 4096]⟩

/-- The squared distance of point `n` of cloud `b` of `x` to point `m` of cloud `b` of `y`. -/
def sqDist (x y : FVec Ideal SCloud .f32) (b : Fin 4) (n m : Fin 4096) : EReal :=
  (x (ix3 b n 0) - y (ix3 b m 0)) * (x (ix3 b n 0) - y (ix3 b m 0))
    + (x (ix3 b n 1) - y (ix3 b m 1)) * (x (ix3 b n 1) - y (ix3 b m 1))
    + (x (ix3 b n 2) - y (ix3 b m 2)) * (x (ix3 b n 2) - y (ix3 b m 2))

/-- The squared distance of two points does not depend on which is named first. -/
theorem sqDist_comm (x y : FVec Ideal SCloud .f32) (b : Fin 4) (n m : Fin 4096) :
    sqDist x y b n m = sqDist y x b m n := by
  unfold sqDist
  rw [sub_mul_self_comm (x (ix3 b n 0)), sub_mul_self_comm (x (ix3 b n 1)), sub_mul_self_comm (x (ix3 b n 2))]

/-- The distances of point `n` of cloud `b` of `x` to the points of cloud `b` of `y`, by position. -/
def dists (x y : FVec Ideal SCloud .f32) (b : Fin 4) (n : Fin 4096) (m : ℕ) : EReal :=
  sqDist x y b n (Fin.ofNat 4096 m)

/-- The least squared distance of each point of `x` to the points of `y`. -/
def minDist (x y : FVec Ideal SCloud .f32) : FVec Ideal SPts .f32 :=
  fun j => (ofLex (nearest (dists x y (j 0) (j 1)))).1

/-- The first position at which that least distance is attained. -/
def minPos (x y : FVec Ideal SCloud .f32) : IVec SPts 32 :=
  fun j => BitVec.ofNat 32 (ofLex (nearest (dists x y (j 0) (j 1)))).2

/-- `c` is below the distance of the nearest candidate when it is below all the distances. -/
theorem le_nearest_fst (f : ℕ → EReal) (c : EReal) : c ≤ (ofLex (nearest f)).1 ↔ ∀ j < 4096, c ≤ f j := by
  have key : ∀ (v : EReal) (n : ℕ), cand c 0 ≤ cand v n ↔ c ≤ v := fun v n => by
    rw [Prod.Lex.toLex_le_toLex]
    simp only [Nat.zero_le, and_true]
    exact le_iff_lt_or_eq.symm
  have h := le_best (fun n => cand (f n) n) 4096 (cand c 0)
  simp only [key, le_top, true_and] at h
  rw [← h]
  exact (key _ (ofLex (nearest f)).2).symm

end Cert.Spec

end
-- ==== Proof.RefValue.lean ====
/- What the reference computes: its distance array, its minima and its arg-minima, read at an index. -/
module

public import proofs.«01_k».proof.Proof.Spec
public import proofs.«01_k».proof.Proof.Gen.ReferenceIdeal
public import Idealize.ShloMosaic.Lib.WordCmp
public import Idealize.ShloMosaic.PureOps.Reduce
public import Idealize.ShloMosaic.PureOps.Ideal.Laws

@[expose] public section

set_option maxRecDepth 16384

noncomputable section

namespace Cert.ReferenceIdeal.Value

open Idealize.ShloMosaic Cert.Nearest Cert.Spec Cert.ReferenceIdeal Cert.ReferenceIdeal.Gen

/-- The reference's array of all squared distances. -/
def table (x y : FVec Ideal S4x4096x3 .f32) : FVec Ideal S4x4096x4096 .f32 :=
  Host.reduceAdd
    (mulf
      (subf (broadcastInDim S4x4096x4096x3 ![0, 1, 2, 3] bcast_S4x4096x1x3_S4x4096x4096x3_0_1_2_3
          (broadcastInDim S4x4096x1x3 ![0, 1, 3] bcast_S4x4096x3_S4x4096x1x3_0_1_3 x))
        (broadcastInDim S4x4096x4096x3 ![0, 1, 2, 3] bcast_S4x1x4096x3_S4x4096x4096x3_0_1_2_3
          (broadcastInDim S4x1x4096x3 ![0, 2, 3] bcast_S4x4096x3_S4x1x4096x3_0_2_3 y)))
      (subf (broadcastInDim S4x4096x4096x3 ![0, 1, 2, 3] bcast_S4x4096x1x3_S4x4096x4096x3_0_1_2_3
          (broadcastInDim S4x4096x1x3 ![0, 1, 3] bcast_S4x4096x3_S4x4096x1x3_0_1_3 x))
        (broadcastInDim S4x4096x4096x3 ![0, 1, 2, 3] bcast_S4x1x4096x3_S4x4096x4096x3_0_1_2_3
          (broadcastInDim S4x1x4096x3 ![0, 2, 3] bcast_S4x4096x3_S4x1x4096x3_0_2_3 y))))
    (constant S_ .f32 0x00000000#32) reducesTo_S4x4096x4096x3_S4x4096x4096_d3 h_S_

/-- Its entries are the squared distances. -/
theorem table_at (x y : FVec Ideal S4x4096x3 .f32) (b : Fin 4) (n m : Fin 4096) :
    table x y (ix3 b n m) = sqDist x y b n m := by
  pointwise [table, sqDist]
  exact Fin.sum_univ_three _

/-- The pattern of positive infinity denotes the top element. -/
theorem inf_eq : Ideal.ofBits .f32 0x7F800000#32 = (⊤ : EReal) := by
  simp [Ideal.ofBits, Ideal.ieee]

/-- The minimum of the 4096 distances is the distance of the nearest. -/
theorem fold_min_eq (f : ℕ → EReal) (g : Fin 4096 → EReal) (h : ∀ k, g k = f k.val) :
    Finset.fold min (Ideal.ofBits .f32 0x7F800000#32) g Finset.univ = (ofLex (nearest f)).1 := by
  refine eq_of_forall_le_iff fun c => ?_
  rw [Finset.le_fold_min, inf_eq, le_nearest_fst]
  refine ⟨fun hc j hj => ?_, fun hc => ⟨le_top, fun k _ => (h k).symm ▸ hc k.val k.isLt⟩⟩
  exact (hc.2 ⟨j, hj⟩ (Finset.mem_univ _)).trans_eq (h _)

/-- A position below 4096 is the position it names. -/
theorem ofNat_val (k : Fin 4096) : Fin.ofNat 4096 k.val = k := Fin.ext (Nat.mod_eq_of_lt k.isLt)

/-- The reference's minimum over the second cloud. -/
theorem min_d2 (x y : FVec Ideal S4x4096x3 .f32) :
    Host.reduce FloatOps.minimumf (table x y) (constant S_ .f32 0x7F800000#32) reducesTo_S4x4096x4096_S4x4096_d2 h_S_
      = minDist x y := by
  funext j
  idx_vars j
  pointwise [minDist]
  exact fold_min_eq _ _ fun k => by rw [table_at, dists, ofNat_val]

/-- The reference's minimum over the first cloud. -/
theorem min_d1 (x y : FVec Ideal S4x4096x3 .f32) :
    Host.reduce FloatOps.minimumf (table x y) (constant S_ .f32 0x7F800000#32) reducesTo_S4x4096x4096_S4x4096_d1 h_S_
      = minDist y x := by
  funext j
  idx_vars j
  pointwise [minDist]
  exact fold_min_eq _ _ fun k => by rw [table_at, dists, ofNat_val, sqDist_comm]

/-- The reference's step on two (distance, position) pairs keeps the lesser in the order by distance, then position. -/
theorem reducer_eq_min (p q : EReal × BitVec 32) (hp : p.2.toNat < 2 ^ 31) (hq : q.2.toNat < 2 ^ 31) :
    (reducer_argmin_f32_i32 (F := Ideal) p q).2.toNat < 2 ^ 31 ∧
      cand (reducer_argmin_f32_i32 (F := Ideal) p q).1 (reducer_argmin_f32_i32 (F := Ideal) p q).2.toNat
        = min (cand p.1 p.2.toNat) (cand q.1 q.2.toNat) := by
  obtain ⟨v, i⟩ := p
  obtain ⟨w, j⟩ := q
  have hs : IntOp.cmpi .slt i j = BitVec.ofBool (decide (i.toNat < j.toNat)) := by
    have hi : i.toInt = (i.toNat : Int) := WordCmp.toInt_eq_toNat_of_lt_half hp
    have hj : j.toInt = (j.toNat : Int) := WordCmp.toInt_eq_toNat_of_lt_half hq
    show BitVec.ofBool (decide (i.toInt < j.toInt)) = _
    rw [hi, hj]
    simp only [Nat.cast_lt]
  have hr : reducer_argmin_f32_i32 (F := Ideal) (v, i) (w, j)
      = (if v < w ∨ (v = w ∧ i.toNat < j.toNat) then v else w,
          if v < w ∨ (v = w ∧ i.toNat < j.toNat) then i else j) := by
    pointwise [reducer_argmin_f32_i32]
    rw [hs]
    rcases lt_trichotomy v w with h | h | h
    · have h1 : ∀ b : BitVec 1, 1#1 ||| b = 1#1 := by decide
      simp [h, Scalar.select_def, IntOp.ori, h1]
    · subst h
      by_cases hij : i.toNat < j.toNat <;> simp [hij, Scalar.select_def, IntOp.ori, IntOp.andi]
    · simp [h.not_gt, h.ne', Scalar.select_def, IntOp.ori, IntOp.andi]
  rw [hr, min_comm, ← merge_eq_min]
  refine ⟨?_, ?_⟩
  · dsimp only
    split_ifs <;> assumption
  · dsimp only
    congr 1
    split_ifs <;> rfl

/-- Folding that step over a list of pairs gives the greatest lower bound of them all. -/
theorem foldl_le (L : List (EReal × BitVec 32)) (p : EReal × BitVec 32) (hp : p.2.toNat < 2 ^ 31)
    (hL : ∀ q ∈ L, q.2.toNat < 2 ^ 31) :
    (L.foldl (reducer_argmin_f32_i32 (F := Ideal)) p).2.toNat < 2 ^ 31 ∧
      ∀ c : Cand, c ≤ cand (L.foldl (reducer_argmin_f32_i32 (F := Ideal)) p).1
          (L.foldl (reducer_argmin_f32_i32 (F := Ideal)) p).2.toNat
        ↔ c ≤ cand p.1 p.2.toNat ∧ ∀ q ∈ L, c ≤ cand q.1 q.2.toNat := by
  induction L generalizing p with
  | nil => exact ⟨hp, fun c => by simp⟩
  | cons q L ih =>
    have hq := reducer_eq_min p q hp (hL q List.mem_cons_self)
    have h := ih _ hq.1 fun r hr => hL r (List.mem_cons_of_mem _ hr)
    refine ⟨h.1, fun c => (h.2 c).trans ?_⟩
    rw [hq.2, le_min_iff, List.forall_mem_cons, and_assoc]

/-- The reference's arg-minimum is the position of the nearest, when the entries folded over at `j` are exactly the
    4096 distances `f`, each with its position. -/
theorem argmin_eq {axes : List (Fin S4x4096x4096.rank)} (T : FVec Ideal S4x4096x4096 .f32) (I : IVec S4x4096x4096 32)
    (h : S4x4096x4096.ReducesTo axes S4x4096) (j : S4x4096.Idx) (f : ℕ → EReal)
    (e : Fin 4096 → S4x4096x4096.Idx) (he : ∀ i, h.drop i = j ↔ ∃ k, i = e k)
    (hT : ∀ k, T (e k) = f k.val) (hI : ∀ k, I (e k) = BitVec.ofNat 32 k.val) :
    (Host.argReduce reducer_argmin_f32_i32 T I (constant S_ .f32 0x7F800000#32) (constantI S_ 32 0x00000000#32) h h_S_ j).2
      = BitVec.ofNat 32 (ofLex (nearest f)).2 := by
  rw [Ideal.argReduce_eq_reduce2, Host.reduce2_eq_foldl_fiber]
  have hmem : ∀ q : EReal × BitVec 32, q ∈ Host.argReduceFiber T I h j ↔ ∃ k : Fin 4096, q = (f k.val, BitVec.ofNat 32 k.val) := by
    intro q
    rw [Host.argReduceFiber, List.mem_map]
    constructor
    · rintro ⟨n, hn, rfl⟩
      obtain ⟨k, hk⟩ := (he _).1 (of_decide_eq_true (List.mem_filter.1 hn).2)
      exact ⟨k, by rw [hk, hT, hI]⟩
    · rintro ⟨k, rfl⟩
      refine ⟨S4x4096x4096.rowMajor (e k), List.mem_filter.2 ⟨List.mem_finRange _, decide_eq_true ?_⟩, ?_⟩
      · rw [Equiv.symm_apply_apply]
        exact (he _).2 ⟨k, rfl⟩
      · rw [Equiv.symm_apply_apply, hT, hI]
  have hk : ∀ k : Fin 4096, (BitVec.ofNat 32 k.val).toNat = k.val := fun k =>
    WordCmp.toNat_ofNat_of_lt (by have := k.isLt; omega)
  have h0 : (constant S_ .f32 0x7F800000#32 : FVec Ideal S_ .f32) (Shape.Idx.first h_S_) = (⊤ : EReal) := inf_eq
  have hf := foldl_le (Host.argReduceFiber T I h j)
    ((constant S_ .f32 0x7F800000#32 : FVec Ideal S_ .f32) (Shape.Idx.first h_S_), 0#32) (by decide)
    fun q hq => by obtain ⟨k, rfl⟩ := (hmem q).1 hq; rw [hk]; have := k.isLt; omega
  have key : ∀ r : EReal × BitVec 32, (∀ c : Cand, c ≤ cand r.1 r.2.toNat ↔ c ≤ start ∧ ∀ j < 4096, c ≤ cand (f j) j) →
      r.2 = BitVec.ofNat 32 (ofLex (nearest f)).2 := fun r hr => by
    have hn : cand r.1 r.2.toNat = nearest f := eq_of_forall_le_iff fun c => by rw [hr c, nearest, le_best]
    rw [← hn]
    show r.2 = BitVec.ofNat 32 r.2.toNat
    rw [BitVec.ofNat_toNat, BitVec.setWidth_eq]
  refine key _ fun c => ?_
  refine (hf.2 c).trans ?_
  rw [h0]
  refine and_congr Iff.rfl ⟨fun hc i hi => ?_, fun hc q hq => ?_⟩
  · have := hc _ ((hmem _).2 ⟨⟨i, hi⟩, rfl⟩)
    rwa [hk ⟨i, hi⟩] at this
  · obtain ⟨k, rfl⟩ := (hmem q).1 hq
    rw [hk]
    exact hc k.val k.isLt

/-- The reference's positions of the nearest in the second cloud. -/
theorem argmin_d2 (x y : FVec Ideal S4x4096x3 .f32) (j : S4x4096.Idx) :
    (Host.argReduce reducer_argmin_f32_i32 (table x y) (iotaInDim S4x4096x4096 32 2) (constant S_ .f32 0x7F800000#32)
      (constantI S_ 32 0x00000000#32) reducesTo_S4x4096x4096_S4x4096_d2 h_S_ j).2 = minPos x y j := by
  idx_vars j
  refine argmin_eq _ _ _ _ (dists x y j0 j1) (fun k => ix3 j0 j1 k) (fun i => ?_) (fun k => ?_) (fun k => rfl)
  · idx_vars i
    have h0 := reducesTo_S4x4096x4096_S4x4096_d2.drop_apply_val_of_eq (ix3 i0 i1 i2) 0 0
    have h1 := reducesTo_S4x4096x4096_S4x4096_d2.drop_apply_val_of_eq (ix3 i0 i1 i2) 1 1
    constructor
    · intro h
      rw [h] at h0 h1
      exact ⟨i2, by rw [show i0 = j0 from Fin.ext h0.symm, show i1 = j1 from Fin.ext h1.symm]⟩
    · rintro ⟨k, hk⟩
      rw [hk] at h0 h1 ⊢
      funext a
      fin_cases a
      · exact Fin.ext h0
      · exact Fin.ext h1
  · rw [table_at, dists, ofNat_val]

/-- The reference's positions of the nearest in the first cloud. -/
theorem argmin_d1 (x y : FVec Ideal S4x4096x3 .f32) (j : S4x4096.Idx) :
    (Host.argReduce reducer_argmin_f32_i32 (table x y) (iotaInDim S4x4096x4096 32 1) (constant S_ .f32 0x7F800000#32)
      (constantI S_ 32 0x00000000#32) reducesTo_S4x4096x4096_S4x4096_d1 h_S_ j).2 = minPos y x j := by
  idx_vars j
  refine argmin_eq _ _ _ _ (dists y x j0 j1) (fun k => ix3 j0 k j1) (fun i => ?_) (fun k => ?_) (fun k => rfl)
  · idx_vars i
    have h0 := reducesTo_S4x4096x4096_S4x4096_d1.drop_apply_val_of_eq (ix3 i0 i1 i2) 0 0
    have h1 := reducesTo_S4x4096x4096_S4x4096_d1.drop_apply_val_of_eq (ix3 i0 i1 i2) 1 2
    constructor
    · intro h
      rw [h] at h0 h1
      exact ⟨i1, by rw [show i0 = j0 from Fin.ext h0.symm, show i2 = j1 from Fin.ext h1.symm]⟩
    · rintro ⟨k, hk⟩
      rw [hk] at h0 h1 ⊢
      funext a
      fin_cases a
      · exact Fin.ext h0
      · exact Fin.ext h1
  · rw [table_at, dists, ofNat_val, sqDist_comm]

end Cert.ReferenceIdeal.Value

end
-- ==== Proof.Trip.lean ====
/- One trip of the kernel's loop: sixteen steps over sixteen candidates, the even ones into one running pair and the odd
   ones into the other. -/
module

public import proofs.«01_k».proof.Proof.Gen.KernelIdeal.Frame
public import proofs.«01_k».proof.Proof.Spec
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.KernelIdeal.Value

open Cert.Nearest Cert.Spec Cert.KernelIdeal Cert.KernelIdeal.Gen

/-- A tile of distances, and a tile of positions. -/
local notation "Tile" => FVec Ideal S32x128 FTy.f32
local notation "PTile" => IVec S32x128 32

/-- The differences of the queries' coordinate `q` to the coordinate `x` of the candidate in row `k`. -/
def diff (q : Tile) (x : FVec Ideal S16x128 .f32) {k : ℕ} (h : S16x128.Slices ![k, 0] S1x128) : Tile :=
  subf q (broadcastTo S32x128 (extractStridedSlice S1x128 ![k, 0] x h) broadcasts_S1x128_S32x128)

/-- The first two squares of a squared distance. -/
def sqPair (qx qy : Tile) (x y : FVec Ideal S16x128 .f32) {k : ℕ} (h : S16x128.Slices ![k, 0] S1x128) : Tile :=
  addf (mulf (diff qx x h) (diff qx x h)) (mulf (diff qy y h) (diff qy y h))

/-- A squared distance from its last difference and its first two squares. -/
def total (dz s : Tile) : Tile := addf s (mulf dz dz)

/-- The position of the candidate in row `k`. -/
def posOf (p : IVec S16x128 32) {k : ℕ} (h : S16x128.Slices ![k, 0] S1x128) : PTile :=
  broadcastTo S32x128 (shapeCast S1x128 (extractStridedSlice S1x128 ![k, 0] p h) shapeCasts_S1x128_S1x128)
    broadcasts_S1x128_S32x128

/-- The running distance after a candidate at distance `d`: replaced where that is strictly nearer. -/
def takeV (d v : Tile) : Tile := select (cmpf .olt d v) d v

/-- The running position after that candidate. -/
def takeP (d : Tile) (p : PTile) (v : Tile) (i : PTile) : PTile := select (cmpf .olt d v) p i

/-- What a trip reads: the three coordinates of the queries, and the coordinates and positions of sixteen candidates. -/
structure Rows where
  qx : Tile
  qy : Tile
  qz : Tile
  x : FVec Ideal S16x128 .f32
  y : FVec Ideal S16x128 .f32
  z : FVec Ideal S16x128 .f32
  p : IVec S16x128 32

/-- The squared distances of the queries to the candidate in row `k`. -/
def Rows.dist (r : Rows) {k : ℕ} (h : S16x128.Slices ![k, 0] S1x128) : Tile :=
  total (diff r.qz r.z h) (sqPair r.qx r.qy r.x r.y h)

/-- The running pair after the candidate in row `k`. -/
def Rows.step (r : Rows) {k : ℕ} (h : S16x128.Slices ![k, 0] S1x128) (a : Tile × PTile) : Tile × PTile :=
  (takeV (r.dist h) a.1, takeP (r.dist h) (posOf r.p h) a.1 a.2)

/-- The eight even candidates, in order. -/
def Rows.evenSteps (r : Rows) (a : Tile × PTile) : Tile × PTile :=
  r.step slices_S16x128_o14_0_S1x128 (r.step slices_S16x128_o12_0_S1x128 (r.step slices_S16x128_o10_0_S1x128
    (r.step slices_S16x128_o8_0_S1x128 (r.step slices_S16x128_o6_0_S1x128 (r.step slices_S16x128_o4_0_S1x128
      (r.step slices_S16x128_o2_0_S1x128 (r.step slices_S16x128_o0_0_S1x128 a)))))))

/-- The eight odd candidates, in order. -/
def Rows.oddSteps (r : Rows) (a : Tile × PTile) : Tile × PTile :=
  r.step slices_S16x128_o15_0_S1x128 (r.step slices_S16x128_o13_0_S1x128 (r.step slices_S16x128_o11_0_S1x128
    (r.step slices_S16x128_o9_0_S1x128 (r.step slices_S16x128_o7_0_S1x128 (r.step slices_S16x128_o5_0_S1x128
      (r.step slices_S16x128_o3_0_S1x128 (r.step slices_S16x128_o1_0_S1x128 a)))))))

/-- The rows trip `k` reads of the windows' contents. -/
def rowsOf (arg3 : Memref sig .tc .vmem S1x1x3x4096x128 .f32) (arg4 : Memref sig .tc .vmem S4096x128 .i32)
    (v0 v2 v4 : Vec Ideal S1x1x1x32x128 .f32) (X3 : BufTy.Contents (Elt Ideal) arg3.view.ty)
    (X4 : BufTy.Contents (Elt Ideal) arg4.view.ty) (k : Fin k0_t1_loop.trips) : Rows where
  qx := k0_pay1 v0
  qy := k0_pay2 v2
  qz := k0_pay3 v4
  x := k0_pay20 (View.readAt (Elt Ideal) arg3.view (Rect.unit (s := S1x1x3x4096x128) (k0_off1 k) S1x1x1x16x128.size (k0_off1_inb k)).toLoadRect X3)
  y := k0_pay21 (View.readAt (Elt Ideal) arg3.view (Rect.unit (s := S1x1x3x4096x128) (k0_off2 k) S1x1x1x16x128.size (k0_off2_inb k)).toLoadRect X3)
  z := k0_pay22 (View.readAt (Elt Ideal) arg3.view (Rect.unit (s := S1x1x3x4096x128) (k0_off3 k) S1x1x1x16x128.size (k0_off3_inb k)).toLoadRect X3)
  p := k0_pay23 (View.readAt (Elt Ideal) arg4.view (Rect.unit (s := S4096x128) (k0_off4 k) S16x128.size (k0_off4_inb k)).toLoadRect X4)

/-! The pieces a trip is printed in, as steps: `value_k` and `pos_k` are the running distance and position after row `k`
    (and the row two below it, where one piece holds both); `last_k` and `pair_k` are parts of row `k`'s distance. -/

section Pieces

theorem value_2 (q1 q2 q3 : Tile) (x y z : FVec Ideal S16x128 .f32) (v : Tile) :
    k0_pay35 q1 q2 q3 x y z v = takeV (total (diff q3 z slices_S16x128_o2_0_S1x128) (sqPair q1 q2 x y slices_S16x128_o2_0_S1x128)) v := rfl
theorem pos_2 (q1 q2 q3 : Tile) (x y z : FVec Ideal S16x128 .f32) (p : IVec S16x128 32) (v : Tile) (i : PTile) :
    k0_pay36 q1 q2 q3 x y z p v i = takeP (total (diff q3 z slices_S16x128_o2_0_S1x128) (sqPair q1 q2 x y slices_S16x128_o2_0_S1x128)) (posOf p slices_S16x128_o2_0_S1x128) v i := rfl
theorem value_5 (q1 q2 q3 : Tile) (x y z : FVec Ideal S16x128 .f32) (v : Tile) :
    k0_pay48 q1 q2 q3 x y z v = takeV (total (diff q3 z slices_S16x128_o5_0_S1x128) (sqPair q1 q2 x y slices_S16x128_o5_0_S1x128)) v := rfl
theorem pos_5 (q1 q2 q3 : Tile) (x y z : FVec Ideal S16x128 .f32) (p : IVec S16x128 32) (v : Tile) (i : PTile) :
    k0_pay49 q1 q2 q3 x y z p v i = takeP (total (diff q3 z slices_S16x128_o5_0_S1x128) (sqPair q1 q2 x y slices_S16x128_o5_0_S1x128)) (posOf p slices_S16x128_o5_0_S1x128) v i := rfl
theorem value_8 (q1 q2 q3 : Tile) (x y z : FVec Ideal S16x128 .f32) (v : Tile) :
    k0_pay61 q1 q2 q3 x y z v = takeV (total (diff q3 z slices_S16x128_o8_0_S1x128) (sqPair q1 q2 x y slices_S16x128_o8_0_S1x128)) v := rfl
theorem pos_8 (q1 q2 q3 : Tile) (x y z : FVec Ideal S16x128 .f32) (p : IVec S16x128 32) (v : Tile) (i : PTile) :
    k0_pay62 q1 q2 q3 x y z p v i = takeP (total (diff q3 z slices_S16x128_o8_0_S1x128) (sqPair q1 q2 x y slices_S16x128_o8_0_S1x128)) (posOf p slices_S16x128_o8_0_S1x128) v i := rfl
theorem value_11 (q1 q2 q3 : Tile) (x y z : FVec Ideal S16x128 .f32) (v : Tile) :
    k0_pay74 q1 q2 q3 x y z v = takeV (total (diff q3 z slices_S16x128_o11_0_S1x128) (sqPair q1 q2 x y slices_S16x128_o11_0_S1x128)) v := rfl
theorem pos_11 (q1 q2 q3 : Tile) (x y z : FVec Ideal S16x128 .f32) (p : IVec S16x128 32) (v : Tile) (i : PTile) :
    k0_pay75 q1 q2 q3 x y z p v i = takeP (total (diff q3 z slices_S16x128_o11_0_S1x128) (sqPair q1 q2 x y slices_S16x128_o11_0_S1x128)) (posOf p slices_S16x128_o11_0_S1x128) v i := rfl
theorem value_14 (u1 u2 u3 : Vec Ideal S1x1x1x32x128 .f32) (x y z : FVec Ideal S16x128 .f32) (v : Tile) :
    k0_pay11 u1 u2 u3 x y z v = takeV (total (diff (k0_pay3 u3) z slices_S16x128_o14_0_S1x128) (sqPair (k0_pay1 u1) (k0_pay2 u2) x y slices_S16x128_o14_0_S1x128)) v := rfl
theorem pos_14 (u1 u2 u3 : Vec Ideal S1x1x1x32x128 .f32) (x y z : FVec Ideal S16x128 .f32) (p : IVec S16x128 32) (v : Tile) (i : PTile) :
    k0_pay12 u1 u2 u3 x y z p v i = takeP (total (diff (k0_pay3 u3) z slices_S16x128_o14_0_S1x128) (sqPair (k0_pay1 u1) (k0_pay2 u2) x y slices_S16x128_o14_0_S1x128)) (posOf p slices_S16x128_o14_0_S1x128) v i := rfl
theorem value_4 (q1 q2 q3 : Tile) (x y z : FVec Ideal S16x128 .f32) (v dz s : Tile) :
    k0_pay52 q1 q2 q3 x y z v dz s = takeV (total (diff q3 z slices_S16x128_o6_0_S1x128) (sqPair q1 q2 x y slices_S16x128_o6_0_S1x128)) (takeV (total dz s) v) := rfl
theorem pos_4 (q1 q2 q3 : Tile) (x y z : FVec Ideal S16x128 .f32) (p : IVec S16x128 32) (v : Tile) (i : PTile) (dz s : Tile) :
    k0_pay53 q1 q2 q3 x y z p v i dz s
      = takeP (total (diff q3 z slices_S16x128_o6_0_S1x128) (sqPair q1 q2 x y slices_S16x128_o6_0_S1x128)) (posOf p slices_S16x128_o6_0_S1x128)
          (takeV (total dz s) v) (takeP (total dz s) (posOf p slices_S16x128_o4_0_S1x128) v i) := rfl
theorem value_7 (q1 q2 q3 : Tile) (x y z : FVec Ideal S16x128 .f32) (v dz s : Tile) :
    k0_pay65 q1 q2 q3 x y z v dz s = takeV (total (diff q3 z slices_S16x128_o9_0_S1x128) (sqPair q1 q2 x y slices_S16x128_o9_0_S1x128)) (takeV (total dz s) v) := rfl
theorem pos_7 (q1 q2 q3 : Tile) (x y z : FVec Ideal S16x128 .f32) (p : IVec S16x128 32) (v : Tile) (i : PTile) (dz s : Tile) :
    k0_pay66 q1 q2 q3 x y z p v i dz s
      = takeP (total (diff q3 z slices_S16x128_o9_0_S1x128) (sqPair q1 q2 x y slices_S16x128_o9_0_S1x128)) (posOf p slices_S16x128_o9_0_S1x128)
          (takeV (total dz s) v) (takeP (total dz s) (posOf p slices_S16x128_o7_0_S1x128) v i) := rfl
theorem value_10 (q1 q2 q3 : Tile) (x y z : FVec Ideal S16x128 .f32) (v dz s : Tile) :
    k0_pay78 q1 q2 q3 x y z v dz s = takeV (total (diff q3 z slices_S16x128_o12_0_S1x128) (sqPair q1 q2 x y slices_S16x128_o12_0_S1x128)) (takeV (total dz s) v) := rfl
theorem pos_10 (q1 q2 q3 : Tile) (x y z : FVec Ideal S16x128 .f32) (p : IVec S16x128 32) (v : Tile) (i : PTile) (dz s : Tile) :
    k0_pay79 q1 q2 q3 x y z p v i dz s
      = takeP (total (diff q3 z slices_S16x128_o12_0_S1x128) (sqPair q1 q2 x y slices_S16x128_o12_0_S1x128)) (posOf p slices_S16x128_o12_0_S1x128)
          (takeV (total dz s) v) (takeP (total dz s) (posOf p slices_S16x128_o10_0_S1x128) v i) := rfl
theorem value_1 (q1 q2 q3 : Tile) (x y z : FVec Ideal S16x128 .f32) (v dz s : Tile) :
    k0_pay39 q1 q2 q3 v x y z dz s = takeV (total (diff q3 z slices_S16x128_o3_0_S1x128) (sqPair q1 q2 x y slices_S16x128_o3_0_S1x128)) (takeV (total dz s) v) := rfl
theorem pos_1 (q1 q2 q3 : Tile) (x y z : FVec Ideal S16x128 .f32) (p : IVec S16x128 32) (v : Tile) (i : PTile) (dz s : Tile) :
    k0_pay40 q1 q2 q3 v i x y z p dz s
      = takeP (total (diff q3 z slices_S16x128_o3_0_S1x128) (sqPair q1 q2 x y slices_S16x128_o3_0_S1x128)) (posOf p slices_S16x128_o3_0_S1x128)
          (takeV (total dz s) v) (takeP (total dz s) (posOf p slices_S16x128_o1_0_S1x128) v i) := rfl
theorem value_13 (u1 u2 u3 : Vec Ideal S1x1x1x32x128 .f32) (x y z : FVec Ideal S16x128 .f32) (v dz s : Tile) :
    k0_pay15 u1 u2 u3 x y z v dz s = takeV (total (diff (k0_pay3 u3) z slices_S16x128_o15_0_S1x128) (sqPair (k0_pay1 u1) (k0_pay2 u2) x y slices_S16x128_o15_0_S1x128)) (takeV (total dz s) v) := rfl
theorem pos_13 (u1 u2 u3 : Vec Ideal S1x1x1x32x128 .f32) (x y z : FVec Ideal S16x128 .f32) (p : IVec S16x128 32) (v : Tile) (i : PTile) (dz s : Tile) :
    k0_pay16 u1 u2 u3 x y z p v i dz s
      = takeP (total (diff (k0_pay3 u3) z slices_S16x128_o15_0_S1x128) (sqPair (k0_pay1 u1) (k0_pay2 u2) x y slices_S16x128_o15_0_S1x128)) (posOf p slices_S16x128_o15_0_S1x128)
          (takeV (total dz s) v) (takeP (total dz s) (posOf p slices_S16x128_o13_0_S1x128) v i) := rfl
theorem value_0 (q1 q2 q3 : Tile) (w1 w2 w3 : Vec Ideal S1x1x1x16x128 .f32) (v : Tile) :
    k0_pay26 q1 q2 q3 v w1 w2 w3 = takeV (total (diff q3 (k0_pay22 w3) slices_S16x128_o0_0_S1x128) (sqPair q1 q2 (k0_pay20 w1) (k0_pay21 w2) slices_S16x128_o0_0_S1x128)) v := rfl
theorem pos_0 (q1 q2 q3 : Tile) (w1 w2 w3 : Vec Ideal S1x1x1x16x128 .f32) (w4 : Vec Ideal S16x128 .i32) (v : Tile) (i : PTile) :
    k0_pay27 q1 q2 q3 v i w1 w2 w3 w4 = takeP (total (diff q3 (k0_pay22 w3) slices_S16x128_o0_0_S1x128) (sqPair q1 q2 (k0_pay20 w1) (k0_pay21 w2) slices_S16x128_o0_0_S1x128)) (posOf (k0_pay23 w4) slices_S16x128_o0_0_S1x128) v i := rfl
theorem last_1 (q3 : Tile) (w3 : Vec Ideal S1x1x1x16x128 .f32) :
    k0_pay28 q3 w3 = diff q3 (k0_pay22 w3) slices_S16x128_o1_0_S1x128 := rfl
theorem pair_1 (q1 q2 : Tile) (w1 w2 : Vec Ideal S1x1x1x16x128 .f32) :
    k0_pay29 q1 q2 w1 w2 = sqPair q1 q2 (k0_pay20 w1) (k0_pay21 w2) slices_S16x128_o1_0_S1x128 := rfl
theorem last_4 (q3 : Tile) (z : FVec Ideal S16x128 .f32) :
    k0_pay41 q3 z = diff q3 z slices_S16x128_o4_0_S1x128 := rfl
theorem pair_4 (q1 q2 : Tile) (x y : FVec Ideal S16x128 .f32) :
    k0_pay42 q1 q2 x y = sqPair q1 q2 x y slices_S16x128_o4_0_S1x128 := rfl
theorem last_7 (q3 : Tile) (z : FVec Ideal S16x128 .f32) :
    k0_pay54 q3 z = diff q3 z slices_S16x128_o7_0_S1x128 := rfl
theorem pair_7 (q1 q2 : Tile) (x y : FVec Ideal S16x128 .f32) :
    k0_pay55 q1 q2 x y = sqPair q1 q2 x y slices_S16x128_o7_0_S1x128 := rfl
theorem last_10 (q3 : Tile) (z : FVec Ideal S16x128 .f32) :
    k0_pay67 q3 z = diff q3 z slices_S16x128_o10_0_S1x128 := rfl
theorem pair_10 (q1 q2 : Tile) (x y : FVec Ideal S16x128 .f32) :
    k0_pay68 q1 q2 x y = sqPair q1 q2 x y slices_S16x128_o10_0_S1x128 := rfl
theorem last_13 (q3 : Tile) (z : FVec Ideal S16x128 .f32) :
    k0_pay80 q3 z = diff q3 z slices_S16x128_o13_0_S1x128 := rfl
theorem pair_13 (q1 q2 : Tile) (x y : FVec Ideal S16x128 .f32) :
    k0_pay81 q1 q2 x y = sqPair q1 q2 x y slices_S16x128_o13_0_S1x128 := rfl

end Pieces

/-- A trip takes the even candidates into the first running pair and the odd ones into the second. -/
theorem trip_eq (𝒱 : Variants) (c : Dev nD) (bd : Option 𝒱.V) (i : grid0.Coords) (arg2 : Memref sig .tc .vmem S1x1x3x32x128 .f32) (harg2 : arg2.IsWhole) (arg3 : Memref sig .tc .vmem S1x1x3x4096x128 .f32) (harg3 : arg3.IsWhole) (arg4 : Memref sig .tc .vmem S4096x128 .i32) (harg4 : arg4.IsWhole) (arg5 : Memref sig .tc .vmem S1x1x32x128 .f32) (harg5 : arg5.IsWhole) (arg6 : Memref sig .tc .vmem S1x1x32x128 .i32) (harg6 : arg6.IsWhole)
    (v0 v2 v4 : Vec Ideal S1x1x1x32x128 .f32) (X3 : BufTy.Contents (Elt Ideal) arg3.view.ty)
    (X4 : BufTy.Contents (Elt Ideal) arg4.view.ty) (k : Fin k0_t1_loop.trips) (a b : Tile × PTile) :
    tripR_k0_t1 (F := Ideal) 𝒱 c bd i arg2 harg2 arg3 harg3 arg4 harg4 arg5 harg5 arg6 harg6 v0 v2 v4 X3 X4 k (a.1, a.2, b.1, b.2)
      = (((rowsOf arg3 arg4 v0 v2 v4 X3 X4 k).evenSteps a).1, ((rowsOf arg3 arg4 v0 v2 v4 X3 X4 k).evenSteps a).2,
          ((rowsOf arg3 arg4 v0 v2 v4 X3 X4 k).oddSteps b).1, ((rowsOf arg3 arg4 v0 v2 v4 X3 X4 k).oddSteps b).2) := by
  unfold tripR_k0_t1 trip_k0_t1
  frame_open
  simp only [value_2, pos_2, value_5, pos_5, value_8, pos_8, value_11, pos_11, value_14, pos_14, value_4, pos_4, value_7, pos_7, value_10, pos_10, value_1, pos_1, value_13, pos_13, value_0, pos_0, last_1, pair_1, last_4, pair_4, last_7, pair_7, last_10, pair_10, last_13, pair_13, Rows.evenSteps, Rows.oddSteps, Rows.step, Rows.dist]
  simp only [rowsOf]

end Cert.KernelIdeal.Value

end
-- ==== Proof.Steps.lean ====
/- A step, a trip and the whole loop at one lane: the running pairs are the best of the candidates taken so far. -/
module

public import proofs.«01_k».proof.Proof.Trip
public import Idealize.ShloMosaic.Lib.WholeRead
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.Nearest Cert.Spec Cert.KernelIdeal Cert.KernelIdeal.Gen

/-- The distance to the candidate in row `k`, at a lane. -/
theorem dist_at (r : Rows) {k : ℕ} (h : S16x128.Slices ![k, 0] S1x128) (hk : k < 16) (s : Fin 32) (l : Fin 128) :
    r.dist h (ix2 s l)
      = (r.qx (ix2 s l) - r.x (ix2 ⟨k, hk⟩ l)) * (r.qx (ix2 s l) - r.x (ix2 ⟨k, hk⟩ l))
        + (r.qy (ix2 s l) - r.y (ix2 ⟨k, hk⟩ l)) * (r.qy (ix2 s l) - r.y (ix2 ⟨k, hk⟩ l))
        + (r.qz (ix2 s l) - r.z (ix2 ⟨k, hk⟩ l)) * (r.qz (ix2 s l) - r.z (ix2 ⟨k, hk⟩ l)) := by
  pointwise [Rows.dist, total, sqPair, diff]

/-- The position of the candidate in row `k`, at a lane. -/
theorem pos_at (p : IVec S16x128 32) {k : ℕ} (h : S16x128.Slices ![k, 0] S1x128) (hk : k < 16) (s : Fin 32) (l : Fin 128) :
    posOf p h (ix2 s l) = p (ix2 ⟨k, hk⟩ l) := by
  pointwise [posOf]

/-- The running distance after a candidate, at a lane. -/
theorem takeV_at (d v : FVec Ideal S32x128 .f32) (s : Fin 32) (l : Fin 128) :
    takeV d v (ix2 s l) = if d (ix2 s l) < v (ix2 s l) then d (ix2 s l) else v (ix2 s l) := by
  pointwise [takeV]

/-- The running position after a candidate, at a lane. -/
theorem takeP_at (d v : FVec Ideal S32x128 .f32) (p i : IVec S32x128 32) (s : Fin 32) (l : Fin 128) :
    takeP d p v i (ix2 s l) = if d (ix2 s l) < v (ix2 s l) then p (ix2 s l) else i (ix2 s l) := by
  pointwise [takeP]

/-- The running pair at a lane, as a candidate. -/
def lane (a : FVec Ideal S32x128 .f32 × IVec S32x128 32) (s : Fin 32) (l : Fin 128) : Cand :=
  cand (a.1 (ix2 s l)) (a.2 (ix2 s l)).toNat

/-- A step takes the lesser of the running pair and the row's candidate, when that one's position is not the earlier. -/
theorem lane_step (r : Rows) {k : ℕ} (h : S16x128.Slices ![k, 0] S1x128) (hk : k < 16)
    (a : FVec Ideal S32x128 .f32 × IVec S32x128 32) (s : Fin 32) (l : Fin 128) (n : ℕ)
    (hp : (r.p (ix2 ⟨k, hk⟩ l)).toNat = n) (ha : (ofLex (lane a s l)).2 ≤ n) :
    lane (r.step h a) s l = min (lane a s l) (cand (r.dist h (ix2 s l)) n) := by
  have e := take_eq_min (a.1 (ix2 s l)) (r.dist h (ix2 s l)) _ n ha
  refine Eq.trans ?_ e
  unfold lane Rows.step
  dsimp only
  rw [takeV_at, takeP_at, pos_at _ h hk]
  congr 1
  split_ifs
  · exact hp
  · rfl

/-- The sixteen rows of `r` hold, at a lane, the candidates `16 K, …, 16 K + 15` of the distances `f`. -/
structure Holds (r : Rows) (f : ℕ → EReal) (K : ℕ) (s : Fin 32) (l : Fin 128) : Prop where
  dist : ∀ (k : ℕ) (h : S16x128.Slices ![k, 0] S1x128) (_ : k < 16), r.dist h (ix2 s l) = f (16 * K + k)
  pos : ∀ k : Fin 16, (r.p (ix2 k l)).toNat = 16 * K + k.val

/-- An even step extends the best of the even candidates by one. -/
theorem even_step {r : Rows} {f : ℕ → EReal} {K : ℕ} {s : Fin 32} {l : Fin 128} (H : Holds r f K s l) {k : ℕ}
    (h : S16x128.Slices ![k, 0] S1x128) (hk : k < 16) (a : FVec Ideal S32x128 .f32 × IVec S32x128 32) (n : ℕ)
    (hn : 2 * n = 16 * K + k) (ha : lane a s l = best (evens f) n) : lane (r.step h a) s l = best (evens f) (n + 1) := by
  rw [lane_step r h hk a s l (2 * n) ((H.pos ⟨k, hk⟩).trans hn.symm), H.dist k h hk, ← hn, ha]
  · rfl
  · rw [ha]
    exact best_pos_le _ _ _ fun j hj => by show 2 * j ≤ 2 * n; omega

/-- An odd step extends the best of the odd candidates by one. -/
theorem odd_step {r : Rows} {f : ℕ → EReal} {K : ℕ} {s : Fin 32} {l : Fin 128} (H : Holds r f K s l) {k : ℕ}
    (h : S16x128.Slices ![k, 0] S1x128) (hk : k < 16) (a : FVec Ideal S32x128 .f32 × IVec S32x128 32) (n : ℕ)
    (hn : 2 * n + 1 = 16 * K + k) (ha : lane a s l = best (odds f) n) : lane (r.step h a) s l = best (odds f) (n + 1) := by
  rw [lane_step r h hk a s l (2 * n + 1) ((H.pos ⟨k, hk⟩).trans hn.symm), H.dist k h hk, ← hn, ha]
  · rfl
  · rw [ha]
    exact best_pos_le _ _ _ fun j hj => by show 2 * j + 1 ≤ 2 * n + 1; omega

/-- A trip's even steps extend the best of the even candidates by eight. -/
theorem even_steps {r : Rows} {f : ℕ → EReal} {K : ℕ} {s : Fin 32} {l : Fin 128} (H : Holds r f K s l)
    (a : FVec Ideal S32x128 .f32 × IVec S32x128 32) (ha : lane a s l = best (evens f) (8 * K)) :
    lane (r.evenSteps a) s l = best (evens f) (8 * (K + 1)) :=
  even_step H _ (by omega) _ (8 * K + 7) (by omega) <| even_step H _ (by omega) _ (8 * K + 6) (by omega) <|
  even_step H _ (by omega) _ (8 * K + 5) (by omega) <| even_step H _ (by omega) _ (8 * K + 4) (by omega) <|
  even_step H _ (by omega) _ (8 * K + 3) (by omega) <| even_step H _ (by omega) _ (8 * K + 2) (by omega) <|
  even_step H _ (by omega) _ (8 * K + 1) (by omega) <| even_step H _ (by omega) _ (8 * K) (by omega) ha

/-- A trip's odd steps extend the best of the odd candidates by eight. -/
theorem odd_steps {r : Rows} {f : ℕ → EReal} {K : ℕ} {s : Fin 32} {l : Fin 128} (H : Holds r f K s l)
    (a : FVec Ideal S32x128 .f32 × IVec S32x128 32) (ha : lane a s l = best (odds f) (8 * K)) :
    lane (r.oddSteps a) s l = best (odds f) (8 * (K + 1)) :=
  odd_step H _ (by omega) _ (8 * K + 7) (by omega) <| odd_step H _ (by omega) _ (8 * K + 6) (by omega) <|
  odd_step H _ (by omega) _ (8 * K + 5) (by omega) <| odd_step H _ (by omega) _ (8 * K + 4) (by omega) <|
  odd_step H _ (by omega) _ (8 * K + 3) (by omega) <| odd_step H _ (by omega) _ (8 * K + 2) (by omega) <|
  odd_step H _ (by omega) _ (8 * K + 1) (by omega) <| odd_step H _ (by omega) _ (8 * K) (by omega) ha

end Cert.KernelIdeal.Value

end
-- ==== Proof.Loop.lean ====
/- The kernel's loop at one lane: after all its trips the running pairs, taken together, are the nearest candidate. -/
module

public import proofs.«01_k».proof.Proof.Steps

@[expose] public section

set_option maxRecDepth 16384

noncomputable section

open Idealize.ShloMosaic Idealize.ShloMosaic.TcCoe Idealize.SL.Sem
open Idealize.ShloMosaic.Pipeline (Dat)

namespace Cert.KernelIdeal.Value

open Cert.Nearest Cert.Spec Cert.KernelIdeal Cert.KernelIdeal.Gen

/-- The loop makes 256 trips. -/
theorem trips_eq : k0_t1_loop.trips = 256 := by decide +kernel

/-- Trip `k` reads rows `16 k` to `16 k + 15` of each coordinate and of the positions. -/
theorem offs : ∀ k : Fin k0_t1_loop.trips, k0_off1 k = ![0, 0, 0, 16 * k.val, 0] ∧ k0_off2 k = ![0, 0, 1, 16 * k.val, 0] ∧
    k0_off3 k = ![0, 0, 2, 16 * k.val, 0] ∧ k0_off4 k = ![16 * k.val, 0] := by decide +kernel

/-- The distances, at a lane, of the query with coordinates `v0`, `v2`, `v4` to the rows of `D`. -/
def laneDist (v0 v2 v4 : Vec Ideal S1x1x1x32x128 .f32) (D : Vec Ideal S1x1x3x4096x128 .f32) (s : Fin 32) (l : Fin 128)
    (n : ℕ) : EReal :=
  (v0 (ix5 0 0 0 s l) - D (ix5 0 0 0 (Fin.ofNat 4096 n) l)) * (v0 (ix5 0 0 0 s l) - D (ix5 0 0 0 (Fin.ofNat 4096 n) l))
    + (v2 (ix5 0 0 0 s l) - D (ix5 0 0 1 (Fin.ofNat 4096 n) l)) * (v2 (ix5 0 0 0 s l) - D (ix5 0 0 1 (Fin.ofNat 4096 n) l))
    + (v4 (ix5 0 0 0 s l) - D (ix5 0 0 2 (Fin.ofNat 4096 n) l)) * (v4 (ix5 0 0 0 s l) - D (ix5 0 0 2 (Fin.ofNat 4096 n) l))

/-- Sixteen rows of one coordinate, loaded from the row `o` on. -/
theorem load_rows (m : Memref sig .tc .vmem S1x1x3x4096x128 .f32) (hm : m.IsWhole) (D : Vec Ideal S1x1x3x4096x128 .f32)
    (off : Fin S1x1x3x4096x128.rank → ℕ) (inb : ∀ a, off a + S1x1x1x16x128.size a ≤ S1x1x3x4096x128.size a)
    (c : Fin 3) (o : ℕ) (ho : o + 16 ≤ 4096) (hoff : off = ![0, 0, c.val, o, 0]) (j : Fin 16) (l : Fin 128) :
    View.readAt (Elt Ideal) m.view (Rect.unit (s := S1x1x3x4096x128) off S1x1x1x16x128.size inb).toLoadRect (hm.unread D)
      (ix5 0 0 0 j l) = D (ix5 0 0 c (Fin.ofNat 4096 (o + j.val)) l) := by
  subst hoff
  rw [View.readAt_eq_ld, Memref.IsWhole.read_unread]
  pointwise
  exact congrArg (fun n => D (ix5 0 0 c n l)) (Fin.ext (Nat.mod_eq_of_lt (by have := j.isLt; omega)).symm)

/-- Sixteen rows of the positions, loaded from the row `o` on. -/
theorem load_pos (m : Memref sig .tc .vmem S4096x128 .i32) (hm : m.IsWhole) (P : Vec Ideal S4096x128 .i32)
    (off : Fin S4096x128.rank → ℕ) (inb : ∀ a, off a + S16x128.size a ≤ S4096x128.size a)
    (o : ℕ) (ho : o + 16 ≤ 4096) (hoff : off = ![o, 0]) (j : Fin 16) (l : Fin 128) :
    View.readAt (Elt Ideal) m.view (Rect.unit (s := S4096x128) off S16x128.size inb).toLoadRect (hm.unread P) (ix2 j l)
      = P (ix2 (Fin.ofNat 4096 (o + j.val)) l) := by
  subst hoff
  rw [View.readAt_eq_ld, Memref.IsWhole.read_unread]
  pointwise
  exact congrArg (fun n => P (ix2 n l)) (Fin.ext (Nat.mod_eq_of_lt (by have := j.isLt; omega)).symm)

/-- Trip `k`'s rows hold the candidates from `16 k` on, when the positions are the row numbers. -/
theorem rows_hold (arg3 : Memref sig .tc .vmem S1x1x3x4096x128 .f32) (harg3 : arg3.IsWhole)
    (arg4 : Memref sig .tc .vmem S4096x128 .i32) (harg4 : arg4.IsWhole) (v0 v2 v4 : Vec Ideal S1x1x1x32x128 .f32)
    (D : Vec Ideal S1x1x3x4096x128 .f32) (P : Vec Ideal S4096x128 .i32)
    (hP : ∀ n l, P (ix2 n l) = BitVec.ofNat 32 n.val) (k : Fin k0_t1_loop.trips) (s : Fin 32) (l : Fin 128) :
    Holds (rowsOf arg3 arg4 v0 v2 v4 (harg3.unread D) (harg4.unread P) k) (laneDist v0 v2 v4 D s l) k.val s l := by
  have hk : k.val < 256 := trips_eq ▸ k.isLt
  obtain ⟨h1, h2, h3, h4⟩ := offs k
  have ex : ∀ j : Fin 16, (rowsOf arg3 arg4 v0 v2 v4 (harg3.unread D) (harg4.unread P) k).x (ix2 j l)
      = D (ix5 0 0 0 (Fin.ofNat 4096 (16 * k.val + j.val)) l) := fun j => by
    pointwise [rowsOf, k0_pay20]
    exact load_rows arg3 harg3 D _ _ 0 _ (by omega) h1 j l
  have ey : ∀ j : Fin 16, (rowsOf arg3 arg4 v0 v2 v4 (harg3.unread D) (harg4.unread P) k).y (ix2 j l)
      = D (ix5 0 0 1 (Fin.ofNat 4096 (16 * k.val + j.val)) l) := fun j => by
    pointwise [rowsOf, k0_pay21]
    exact load_rows arg3 harg3 D _ _ 1 _ (by omega) h2 j l
  have ez : ∀ j : Fin 16, (rowsOf arg3 arg4 v0 v2 v4 (harg3.unread D) (harg4.unread P) k).z (ix2 j l)
      = D (ix5 0 0 2 (Fin.ofNat 4096 (16 * k.val + j.val)) l) := fun j => by
    pointwise [rowsOf, k0_pay22]
    exact load_rows arg3 harg3 D _ _ 2 _ (by omega) h3 j l
  have qx : (rowsOf arg3 arg4 v0 v2 v4 (harg3.unread D) (harg4.unread P) k).qx (ix2 s l) = v0 (ix5 0 0 0 s l) := by
    pointwise [rowsOf, k0_pay1]
  have qy : (rowsOf arg3 arg4 v0 v2 v4 (harg3.unread D) (harg4.unread P) k).qy (ix2 s l) = v2 (ix5 0 0 0 s l) := by
    pointwise [rowsOf, k0_pay2]
  have qz : (rowsOf arg3 arg4 v0 v2 v4 (harg3.unread D) (harg4.unread P) k).qz (ix2 s l) = v4 (ix5 0 0 0 s l) := by
    pointwise [rowsOf, k0_pay3]
  refine ⟨fun j h hj => ?_, fun j => ?_⟩
  · rw [dist_at _ h hj, ex, ey, ez, qx, qy, qz]
    rfl
  · have e : (rowsOf arg3 arg4 v0 v2 v4 (harg3.unread D) (harg4.unread P) k).p (ix2 j l)
        = P (ix2 (Fin.ofNat 4096 (16 * k.val + j.val)) l) := by
      pointwise [rowsOf, k0_pay23]
      exact load_pos arg4 harg4 P _ _ _ (by omega) h4 j l
    rw [e, hP, WordCmp.toNat_ofNat_of_lt]
    · exact Nat.mod_eq_of_lt (by have := j.isLt; omega)
    · exact lt_of_lt_of_le (Fin.isLt _) (by decide)

/-- Every running pair starts as the candidate a search starts from. -/
theorem lane_start (s : Fin 32) (l : Fin 128) : lane (k0_pay4 (F := Ideal), k0_pay5) s l = start := by
  unfold lane start
  congr 1

/-- Before trip `k` the running pairs are the best of the even and of the odd candidates below `16 k`. -/
theorem loop_lane (𝒱 : Variants) (c : Dev nD) (bd : Option 𝒱.V) (i : grid0.Coords) (arg2 : Memref sig .tc .vmem S1x1x3x32x128 .f32) (harg2 : arg2.IsWhole) (arg3 : Memref sig .tc .vmem S1x1x3x4096x128 .f32) (harg3 : arg3.IsWhole) (arg4 : Memref sig .tc .vmem S4096x128 .i32) (harg4 : arg4.IsWhole) (arg5 : Memref sig .tc .vmem S1x1x32x128 .f32) (harg5 : arg5.IsWhole) (arg6 : Memref sig .tc .vmem S1x1x32x128 .i32) (harg6 : arg6.IsWhole)
    (v0 v2 v4 : Vec Ideal S1x1x1x32x128 .f32) (D : Vec Ideal S1x1x3x4096x128 .f32) (P : Vec Ideal S4096x128 .i32)
    (hP : ∀ n l, P (ix2 n l) = BitVec.ofNat 32 n.val) (s : Fin 32) (l : Fin 128) (k : ℕ) (hk : k ≤ 256) :
    ∃ a b : FVec Ideal S32x128 .f32 × IVec S32x128 32,
      st_k0_t1 (F := Ideal) 𝒱 c bd i arg2 harg2 arg3 harg3 arg4 harg4 arg5 harg5 arg6 harg6 v0 v2 v4 (harg3.unread D)
        (harg4.unread P) (k0_pay4, k0_pay5, k0_pay4, k0_pay5) k = (a.1, a.2, b.1, b.2) ∧
      lane a s l = best (evens (laneDist v0 v2 v4 D s l)) (8 * k) ∧
      lane b s l = best (odds (laneDist v0 v2 v4 D s l)) (8 * k) := by
  induction k with
  | zero => exact ⟨(k0_pay4, k0_pay5), (k0_pay4, k0_pay5), st_k0_t1_zero .., lane_start s l, lane_start s l⟩
  | succ k ih =>
    obtain ⟨a, b, e, ha, hb⟩ := ih (by omega)
    have hlt : k < k0_t1_loop.trips := by rw [trips_eq]; omega
    have H := rows_hold arg3 harg3 arg4 harg4 v0 v2 v4 D P hP ⟨k, hlt⟩ s l
    refine ⟨_, _, ?_, even_steps H a ha, odd_steps H b hb⟩
    have hs := st_k0_t1_succ (F := Ideal) 𝒱 c bd i arg2 harg2 arg3 harg3 arg4 harg4 arg5 harg5 arg6 harg6 v0 v2 v4
      (harg3.unread D) (harg4.unread P) (k0_pay4, k0_pay5, k0_pay4, k0_pay5) ⟨k, hlt⟩
    refine hs.trans ?_
    rw [e]
    exact trip_eq 𝒱 c bd i arg2 harg2 arg3 harg3 arg4 harg4 arg5 harg5 arg6 harg6 v0 v2 v4 _ _ ⟨k, hlt⟩ a b

/-- The final choice between the two running pairs at a lane is the lesser, when both positions are below 4096. -/
theorem final_lane (a b : FVec Ideal S32x128 .f32 × IVec S32x128 32) (s : Fin 32) (l : Fin 128)
    (ha : (ofLex (lane a s l)).2 < 4096) (hb : (ofLex (lane b s l)).2 < 4096) :
    cand (k0_pay18 (F := Ideal) a.1 a.2 b.1 b.2 (ix4 0 0 s l)) (k0_pay19 (F := Ideal) a.1 a.2 b.1 b.2 (ix4 0 0 s l)).toNat
      = min (lane a s l) (lane b s l) := by
  have hs : IntOp.cmpi .slt (b.2 (ix2 s l)) (a.2 (ix2 s l))
      = BitVec.ofBool (decide ((b.2 (ix2 s l)).toNat < (a.2 (ix2 s l)).toNat)) := by
    have hi : (a.2 (ix2 s l)).toInt = ((a.2 (ix2 s l)).toNat : Int) :=
      WordCmp.toInt_eq_toNat_of_lt_half (lt_trans ha (by decide))
    have hj : (b.2 (ix2 s l)).toInt = ((b.2 (ix2 s l)).toNat : Int) :=
      WordCmp.toInt_eq_toNat_of_lt_half (lt_trans hb (by decide))
    show BitVec.ofBool (decide ((b.2 (ix2 s l)).toInt < (a.2 (ix2 s l)).toInt)) = _
    rw [hi, hj]
    simp only [Nat.cast_lt]
  refine Eq.trans ?_ (merge_eq_min (a.1 (ix2 s l)) (b.1 (ix2 s l)) (a.2 (ix2 s l)).toNat (b.2 (ix2 s l)).toNat)
  pointwise [k0_pay18, k0_pay19, k0_pay17]
  have hw : ∀ p q r : Bool, IntOp.ori (BitVec.ofBool p) (IntOp.andi (BitVec.ofBool q) (BitVec.ofBool r))
      = BitVec.ofBool (p || (q && r)) := by decide
  rw [hs, hw, ← Bool.decide_and, ← Bool.decide_or]
  by_cases h : b.1 (ix2 s l) < a.1 (ix2 s l) ∨
      b.1 (ix2 s l) = a.1 (ix2 s l) ∧ (b.2 (ix2 s l)).toNat < (a.2 (ix2 s l)).toNat
  · rw [if_pos h, if_pos h, decide_eq_true h]
    rfl
  · rw [if_neg h, if_neg h, decide_eq_false h]
    rfl

end Cert.KernelIdeal.Value

end
-- ==== Proof.Block.lean ====
/- What one grid point writes: at each lane the distance and the position of the nearest row of its candidate block. -/
module

public import proofs.«01_k».proof.Proof.Loop

@[expose] public section

set_option maxRecDepth 16384

noncomputable section

open Idealize.ShloMosaic Idealize.ShloMosaic.TcCoe Idealize.SL.Sem
open Idealize.ShloMosaic.Pipeline (Dat)

namespace Cert.KernelIdeal.Value

open Cert.Nearest Cert.Spec Cert.KernelIdeal Cert.KernelIdeal.Gen

/-- After the loop, the final choice at a lane is the nearest of all 4096 rows. -/
theorem out_lane (𝒱 : Variants) (c : Dev nD) (bd : Option 𝒱.V) (i : grid0.Coords) (arg2 : Memref sig .tc .vmem S1x1x3x32x128 .f32) (harg2 : arg2.IsWhole) (arg3 : Memref sig .tc .vmem S1x1x3x4096x128 .f32) (harg3 : arg3.IsWhole) (arg4 : Memref sig .tc .vmem S4096x128 .i32) (harg4 : arg4.IsWhole) (arg5 : Memref sig .tc .vmem S1x1x32x128 .f32) (harg5 : arg5.IsWhole) (arg6 : Memref sig .tc .vmem S1x1x32x128 .i32) (harg6 : arg6.IsWhole)
    (v0 v2 v4 : Vec Ideal S1x1x1x32x128 .f32) (D : Vec Ideal S1x1x3x4096x128 .f32) (P : Vec Ideal S4096x128 .i32)
    (hP : ∀ n l, P (ix2 n l) = BitVec.ofNat 32 n.val) (s : Fin 32) (l : Fin 128) :
    cand (k0_pay18 (F := Ideal)
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).1
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).2.1
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).2.2.1
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).2.2.2 (ix4 0 0 s l))
      (k0_pay19 (F := Ideal)
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).1
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).2.1
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).2.2.1
        (st_k0_t1 (F := Ideal) 𝒱 c bd i arg2 harg2 arg3 harg3 arg4 harg4 arg5 harg5 arg6 harg6 v0 v2 v4 (harg3.unread D) (harg4.unread P) (k0_pay4, k0_pay5, k0_pay4, k0_pay5) (Scf.trips (0#32) (Scalar.addi 0#32 256#32) 1#32)).2.2.2 (ix4 0 0 s l)).toNat
      = nearest (laneDist v0 v2 v4 D s l) := by
  have ht : Scf.trips (0#32) (Scalar.addi 0#32 256#32) 1#32 = 256 := trips_eq
  obtain ⟨a, b, e, ha, hb⟩ := loop_lane 𝒱 c bd i arg2 harg2 arg3 harg3 arg4 harg4 arg5 harg5 arg6 harg6 v0 v2 v4 D P hP s l
    256 le_rfl
  rw [ht, e]
  refine (final_lane a b s l ?_ ?_).trans ?_
  · rw [ha]
    exact Nat.lt_succ_of_le (best_pos_le _ _ 4095 fun j hj => by show 2 * j ≤ 4095; omega)
  · rw [hb]
    exact Nat.lt_succ_of_le (best_pos_le _ _ 4095 fun j hj => by show 2 * j + 1 ≤ 4095; omega)
  · rw [ha, hb]
    exact min_evens_odds _

/-- The distances, at a lane, of the query of the block `Q` there to the rows of the block `D`. -/
def blockDist (Q : Vec Ideal S1x1x3x32x128 .f32) (D : Vec Ideal S1x1x3x4096x128 .f32) (s : Fin 32) (l : Fin 128)
    (n : ℕ) : EReal :=
  (Q (ix5 0 0 0 s l) - D (ix5 0 0 0 (Fin.ofNat 4096 n) l)) * (Q (ix5 0 0 0 s l) - D (ix5 0 0 0 (Fin.ofNat 4096 n) l))
    + (Q (ix5 0 0 1 s l) - D (ix5 0 0 1 (Fin.ofNat 4096 n) l)) * (Q (ix5 0 0 1 s l) - D (ix5 0 0 1 (Fin.ofNat 4096 n) l))
    + (Q (ix5 0 0 2 s l) - D (ix5 0 0 2 (Fin.ofNat 4096 n) l)) * (Q (ix5 0 0 2 s l) - D (ix5 0 0 2 (Fin.ofNat 4096 n) l))

/-- One coordinate of the queries, loaded from their block. -/
theorem load_query (Q : Vec Ideal S1x1x3x32x128 .f32) (c : Fin 3)
    (inb : ∀ a, (![0, 0, c.val, 0, 0] : Fin 5 → ℕ) a + S1x1x1x32x128.size a ≤ S1x1x3x32x128.size a) (s : Fin 32) (l : Fin 128) :
    View.ld Q (Rect.unit (s := S1x1x3x32x128) ![0, 0, c.val, 0, 0] S1x1x1x32x128.size inb) (ix5 0 0 0 s l)
      = Q (ix5 0 0 c s l) := by
  pointwise

/-- What the body leaves in its two result buffers at a lane, as a candidate: the nearest row of the block `D`. -/
theorem body_at (c : Dev nD) (i : grid0.Coords) (arg2 : Memref sig .tc .vmem S1x1x3x32x128 .f32) (harg2 : arg2.IsWhole) (arg3 : Memref sig .tc .vmem S1x1x3x4096x128 .f32) (harg3 : arg3.IsWhole) (arg4 : Memref sig .tc .vmem S4096x128 .i32) (harg4 : arg4.IsWhole) (arg5 : Memref sig .tc .vmem S1x1x32x128 .f32) (harg5 : arg5.IsWhole) (arg6 : Memref sig .tc .vmem S1x1x32x128 .i32) (harg6 : arg6.IsWhole)
    (Q : Vec Ideal S1x1x3x32x128 .f32) (D : Vec Ideal S1x1x3x4096x128 .f32) (P : Vec Ideal S4096x128 .i32)
    (hP : ∀ n l, P (ix2 n l) = BitVec.ofNat 32 n.val) (s : Fin 32) (l : Fin 128) :
    cand (out0_A_3 (F := Ideal) c i arg2 harg2 arg3 harg3 arg4 harg4 arg5 harg5 arg6 harg6 Q D P (ix4 0 0 s l))
      (out0_A_4 (F := Ideal) c i arg2 harg2 arg3 harg3 arg4 harg4 arg5 harg5 arg6 harg6 Q D P (ix4 0 0 s l)).toNat
      = nearest (blockDist Q D s l) := by
  have e : laneDist
      (View.ld Q (Rect.unit (s := S1x1x3x32x128) ![0, 0, 0, 0, 0] S1x1x1x32x128.size inb_S1x1x3x32x128_S1x1x1x32x128_0_0_0_0_0))
      (View.ld Q (Rect.unit (s := S1x1x3x32x128) ![0, 0, 1, 0, 0] S1x1x1x32x128.size inb_S1x1x3x32x128_S1x1x1x32x128_0_0_1_0_0))
      (View.ld Q (Rect.unit (s := S1x1x3x32x128) ![0, 0, 2, 0, 0] S1x1x1x32x128.size inb_S1x1x3x32x128_S1x1x1x32x128_0_0_2_0_0))
      D s l = blockDist Q D s l := by
    funext n
    have e0 := load_query Q 0 inb_S1x1x3x32x128_S1x1x1x32x128_0_0_0_0_0 s l
    have e1 := load_query Q 1 inb_S1x1x3x32x128_S1x1x1x32x128_0_0_1_0_0 s l
    have e2 := load_query Q 2 inb_S1x1x3x32x128_S1x1x1x32x128_0_0_2_0_0 s l
    unfold laneDist blockDist
    rw [← e0, ← e1, ← e2]
    rfl
  have h := out_lane Variants.none c none i arg2 harg2 arg3 harg3 arg4 harg4 arg5 harg5 arg6 harg6
    (View.ld Q (Rect.unit (s := S1x1x3x32x128) ![0, 0, 0, 0, 0] S1x1x1x32x128.size inb_S1x1x3x32x128_S1x1x1x32x128_0_0_0_0_0))
    (View.ld Q (Rect.unit (s := S1x1x3x32x128) ![0, 0, 1, 0, 0] S1x1x1x32x128.size inb_S1x1x3x32x128_S1x1x1x32x128_0_0_1_0_0))
    (View.ld Q (Rect.unit (s := S1x1x3x32x128) ![0, 0, 2, 0, 0] S1x1x1x32x128.size inb_S1x1x3x32x128_S1x1x1x32x128_0_0_2_0_0))
    D P hP s l
  rw [e] at h
  frame_out
  exact h

variable (m : (ℓ : Loc nD τ sig) → Buf (Elt Ideal) ℓ)

/-- Both results of a grid point at a lane, as a candidate: the nearest row of the point's candidate block. -/
theorem outs_at (c : Dev nD) (t : Fin cfg0.N)
    (hP : ∀ n l, (iblk m c 2 t : Vec Ideal S4096x128 .i32) (ix2 n l) = BitVec.ofNat 32 n.val) (s : Fin 32) (l : Fin 128) :
    cand ((outsAt0 m c t).1 (ix4 0 0 s l)) ((outsAt0 m c t).2 (ix4 0 0 s l)).toNat
      = nearest (blockDist (iblk m c 0 t) (iblk m c 1 t) s l) := by
  unfold outsAt0
  dsimp only
  have h := body_at c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) hP s l
  exact h

end Cert.KernelIdeal.Value

end
-- ==== Proof.Arrays.lean ====
/- The arrays the grid fills: the operands as the host prepares them, the blocks a grid point reads of them, and the two
   result arrays after the last point. -/
module

public import proofs.«01_k».proof.Proof.Block
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Value

open Cert.Nearest Cert.Spec Cert.KernelIdeal Cert.KernelIdeal.Gen

variable (m : (ℓ : Loc nD τ sig) → Buf (Elt Ideal) ℓ)

/-- Grid point `t` works on direction `t / 4` and cloud `t mod 4`; the positions are one block for all. -/
theorem idx : ∀ t : Fin cfg0.N, win0_0.index t = ![t.val / 4, t.val % 4, 0, 0, 0]
    ∧ win0_1.index t = ![t.val / 4, t.val % 4, 0, 0, 0] ∧ win0_2.index t = ![0, 0]
    ∧ win0_3.index t = ![t.val / 4, t.val % 4, 0, 0] ∧ win0_4.index t = ![t.val / 4, t.val % 4, 0, 0] :=
  (by decide +kernel : ∀ t : Fin grid0.N, _)

/-- The clouds searched from in direction `p`: the first argument's in direction 0, the second's in direction 1. -/
def froms (c : Dev nD) (p : Fin 2) : FVec Ideal SCloud .f32 :=
  if p.val < 1 then m ((c : Thread nD τ).loc main_arg0) else m ((c : Thread nD τ).loc main_arg1)

/-- The clouds searched in direction `p`: the other argument's. -/
def tos (c : Dev nD) (p : Fin 2) : FVec Ideal SCloud .f32 :=
  if p.val < 1 then m ((c : Thread nD τ).loc main_arg1) else m ((c : Thread nD τ).loc main_arg0)

/-- The point held at row `s`, lane `l` of a tile. -/
def pt (s : Fin 32) (l : Fin 128) : Fin 4096 := ⟨s.val * 128 + l.val, by have := s.isLt; have := l.isLt; omega⟩

/-- The query operand: coordinate `k` of the points searched from, laid out in tiles. -/
theorem query_at (c : Dev nD) (p : Fin 2) (b : Fin 4) (k : Fin 3) (s : Fin 32) (l : Fin 128) :
    (V m c main_v6 : Vec Ideal S2x4x3x32x128 .f32) (ix5 p b k s l) = froms m c p (ix3 b (pt s l) k) := by
  unfold V V0 froms pt
  unfold_abbrev_sides
  after_reads_at
  split_ifs <;> rfl

/-- The candidate operand: coordinate `k` of the points searched, the same at every lane. -/
theorem candidate_at (c : Dev nD) (p : Fin 2) (b : Fin 4) (k : Fin 3) (n : Fin 4096) (l : Fin 128) :
    (V m c main_v11 : Vec Ideal S2x4x3x4096x128 .f32) (ix5 p b k n l) = tos m c p (ix3 b n k) := by
  unfold V V0 tos
  unfold_abbrev_sides
  after_reads_at
  after_reads_at
  split_ifs <;> rfl

/-- The position operand: the row number at every lane. -/
theorem position_at (c : Dev nD) (n : Fin 4096) (l : Fin 128) :
    (V m c main_v14 : Vec Ideal S4096x128 .i32) (ix2 n l) = BitVec.ofNat 32 n.val := by
  unfold V V0
  unfold_abbrev_sides
  after_reads_at

/-- The direction of a grid point. -/
def dirOf (t : Fin cfg0.N) : Fin 2 := ⟨t.val / 4, by have : t.val < 8 := t.isLt; omega⟩
/-- The cloud of a grid point. -/
def cloudOf (t : Fin cfg0.N) : Fin 4 := ⟨t.val % 4, by omega⟩

/-- The query block of grid point `t`. -/
theorem query_block (c : Dev nD) (t : Fin cfg0.N) (k : Fin 3) (s : Fin 32) (l : Fin 128) :
    (iblk m c 0 t : Vec Ideal S1x1x3x32x128 .f32) (ix5 0 0 k s l) = froms m c (dirOf t) (ix3 (cloudOf t) (pt s l) k) := by
  refine Eq.trans ?_ (query_at m c (dirOf t) (cloudOf t) k s l)
  have h := (idx t).1
  unfold dirOf cloudOf
  blk_point [iblk, h]

/-- The candidate block of grid point `t`. -/
theorem candidate_block (c : Dev nD) (t : Fin cfg0.N) (k : Fin 3) (n : Fin 4096) (l : Fin 128) :
    (iblk m c 1 t : Vec Ideal S1x1x3x4096x128 .f32) (ix5 0 0 k n l) = tos m c (dirOf t) (ix3 (cloudOf t) n k) := by
  refine Eq.trans ?_ (candidate_at m c (dirOf t) (cloudOf t) k n l)
  have h := (idx t).2.1
  unfold dirOf cloudOf
  blk_point [iblk, h]

/-- The position block of every grid point. -/
theorem position_block (c : Dev nD) (t : Fin cfg0.N) (n : Fin 4096) (l : Fin 128) :
    (iblk m c 2 t : Vec Ideal S4096x128 .i32) (ix2 n l) = BitVec.ofNat 32 n.val := by
  refine Eq.trans ?_ (position_at m c n l)
  have h := (idx t).2.2.1
  blk_point [iblk, h]

/-- Both results of grid point `t` at a lane: the nearest point of the other cloud. -/
theorem point_at (c : Dev nD) (t : Fin cfg0.N) (s : Fin 32) (l : Fin 128) :
    cand ((outsAt0 m c t).1 (ix4 0 0 s l)) ((outsAt0 m c t).2 (ix4 0 0 s l)).toNat
      = nearest (dists (froms m c (dirOf t)) (tos m c (dirOf t)) (cloudOf t) (pt s l)) := by
  refine (outs_at m c t (fun n l => position_block m c t n l) s l).trans (congrArg nearest (funext fun n => ?_))
  unfold blockDist dists sqDist
  rw [query_block m c t 0, query_block m c t 1, query_block m c t 2, candidate_block m c t 0, candidate_block m c t 1,
    candidate_block m c t 2]

/-- The distances the grid computes, by direction, cloud, row and lane. -/
def distTiles (c : Dev nD) : Vec Ideal S2x4x32x128 .f32 :=
  fun j => (ofLex (nearest (dists (froms m c (j 0)) (tos m c (j 0)) (j 1) (pt (j 2) (j 3))))).1

/-- The positions the grid computes, likewise. -/
def posTiles (c : Dev nD) : Vec Ideal S2x4x32x128 .i32 :=
  fun j => BitVec.ofNat 32 (ofLex (nearest (dists (froms m c (j 0)) (tos m c (j 0)) (j 1) (pt (j 2) (j 3))))).2

/-- Where entry `(s, l)` of the distance block of grid point `t` lies in its array. -/
theorem dist_emb (t : Fin cfg0.N) (s : Fin 32) (l : Fin 128) :
    (win0_3.blk t).view.emb (ix4 0 0 s l) = (ix4 (dirOf t) (cloudOf t) s l : S2x4x32x128.Idx) := by
  have h := (idx t).2.2.2.1
  unfold dirOf cloudOf
  blk_ext [h]

/-- Where entry `(s, l)` of the position block of grid point `t` lies in its array. -/
theorem pos_emb (t : Fin cfg0.N) (s : Fin 32) (l : Fin 128) :
    (win0_4.blk t).view.emb (ix4 0 0 s l) = (ix4 (dirOf t) (cloudOf t) s l : S2x4x32x128.Idx) := by
  have h := (idx t).2.2.2.2
  unfold dirOf cloudOf
  blk_ext [h]

/-- The computed distance at an index. -/
theorem distTiles_at (c : Dev nD) (p : Fin 2) (b : Fin 4) (s : Fin 32) (l : Fin 128) : distTiles m c (ix4 p b s l)
    = (ofLex (nearest (dists (froms m c p) (tos m c p) b (pt s l)))).1 := rfl

/-- The computed position at an index. -/
theorem posTiles_at (c : Dev nD) (p : Fin 2) (b : Fin 4) (s : Fin 32) (l : Fin 128) : posTiles m c (ix4 p b s l)
    = BitVec.ofNat 32 (ofLex (nearest (dists (froms m c p) (tos m c p) b (pt s l)))).2 := rfl

/-- The distance of a candidate. -/
theorem fst_of_cand {v : EReal} {i : BitVec 32} {x : Cand} (h : cand v i.toNat = x) : v = (ofLex x).1 := by
  subst h; rfl
/-- The position of a candidate. -/
theorem snd_of_cand {v : EReal} {i : BitVec 32} {x : Cand} (h : cand v i.toNat = x) : i = BitVec.ofNat 32 (ofLex x).2 := by
  subst h
  exact BitVec.eq_of_toNat_eq (by simp [cand])

/-- The distance that grid point `t` leaves at row `s`, lane `l`. -/
theorem dist_point (c : Dev nD) (t : Fin cfg0.N) (s : Fin 32) (l : Fin 128) :
    (outsAt0 m c t).1 (ix4 0 0 s l) = distTiles m c (ix4 (dirOf t) (cloudOf t) s l) := by
  rw [distTiles_at]
  exact fst_of_cand (point_at m c t s l)

/-- The position that grid point `t` leaves at row `s`, lane `l`. -/
theorem pos_point (c : Dev nD) (t : Fin cfg0.N) (s : Fin 32) (l : Fin 128) :
    (outsAt0 m c t).2 (ix4 0 0 s l) = posTiles m c (ix4 (dirOf t) (cloudOf t) s l) := by
  rw [posTiles_at]
  exact snd_of_cand (point_at m c t s l)

/-- The distance array after the last grid point. -/
theorem dist_array (c : Dev nD) : (dats m 0 c).arrAt 3 (cfgs 0).N = distTiles m c := by
  refine (dats m 0 c).arrAt_eq_of_covers 3 (distTiles m c) (by decide +kernel) fun t hf y => ?_
  idx_vars y
  blk_simp
  rw [after0_3]
  obtain rfl : y0 = 0 := Subsingleton.elim _ _
  obtain rfl : y1 = 0 := Subsingleton.elim _ _
  refine (dist_point m c t y2 y3).trans ?_
  exact congrArg (distTiles m c) (dist_emb t y2 y3).symm

/-- The position array after the last grid point. -/
theorem pos_array (c : Dev nD) : (dats m 0 c).arrAt 4 (cfgs 0).N = posTiles m c := by
  refine (dats m 0 c).arrAt_eq_of_covers 4 (posTiles m c) (by decide +kernel) fun t hf y => ?_
  idx_vars y
  blk_simp
  rw [after0_4]
  obtain rfl : y0 = 0 := Subsingleton.elim _ _
  obtain rfl : y1 = 0 := Subsingleton.elim _ _
  refine (pos_point m c t y2 y3).trans ?_
  exact congrArg (posTiles m c) (pos_emb t y2 y3).symm

end Cert.KernelIdeal.Value

end
-- ==== Proof.Tail.lean ====
/- The four results of the program: each is one direction's half of an array of tiles, laid out flat again. -/
module

public import proofs.«01_k».proof.Proof.Arrays

@[expose] public section

set_option maxRecDepth 16384

noncomputable section

open Idealize.ShloMosaic Idealize.ShloMosaic.TcCoe Idealize.SL.Sem
open Idealize.ShloMosaic.Pipeline (Dat)

namespace Cert.KernelIdeal.Value

open Cert.Nearest Cert.Spec Cert.KernelIdeal Cert.KernelIdeal.Gen

variable (m : (ℓ : Loc nD τ sig) → Buf (Elt Ideal) ℓ)

/-- The five windows lie on five arrays. -/
theorem arr_inj : Function.Injective (Pipeline.arrRef (cfgs 0).spec) := by decide +kernel

/-- What the last grid point leaves for the host, at the distance array. -/
theorem left_dist (c : Dev nD) :
    (Pipeline.withArrays (cfgs 0).spec c (V0 m c) (fun w => (dats m 0 c).arrAt w (cfgs 0).N) (Proc.tc.devRef main_v15_0)
      : Vec Ideal S2x4x32x128 .f32) = distTiles m c :=
  (Pipeline.withArrays_arr (cfgs 0).spec arr_inj c _ _ 3).trans (dist_array m c)

/-- What the last grid point leaves for the host, at the position array. -/
theorem left_pos (c : Dev nD) :
    (Pipeline.withArrays (cfgs 0).spec c (V0 m c) (fun w => (dats m 0 c).arrAt w (cfgs 0).N) (Proc.tc.devRef main_v15_1)
      : Vec Ideal S2x4x32x128 .i32) = posTiles m c :=
  (Pipeline.withArrays_arr (cfgs 0).spec arr_inj c _ _ 4).trans (pos_array m c)

/-- Point `n` is held at row `n / 128`, lane `n mod 128`. -/
theorem pt_split (n : Fin 4096) (h₁ : n.val / 128 < 32) (h₂ : n.val % 128 < 128) : pt ⟨n.val / 128, h₁⟩ ⟨n.val % 128, h₂⟩ = n :=
  Fin.ext (by show n.val / 128 * 128 + n.val % 128 = n.val; omega)

/-- The first result: each first point's least squared distance to the second cloud. -/
theorem dist1 (c : Dev nD) : (Pipeline.afterTail₀ cfgs (dats m) 0 (V0 m) [hostOps1] c main_v18 : Vec Ideal S4x4096 .f32)
    = minDist (m ((c : Thread nD τ).loc main_arg0)) (m ((c : Thread nD τ).loc main_arg1)) := by
  funext j
  idx_vars j
  unfold Pipeline.afterTail₀
  unfold_abbrev_sides
  after_reads_at
  rw [left_dist, distTiles_at, pt_split]
  rfl

/-- The second result: the first position in the second cloud at which it is reached. -/
theorem idx1 (c : Dev nD) : (Pipeline.afterTail₀ cfgs (dats m) 0 (V0 m) [hostOps1] c main_v21 : Vec Ideal S4x4096 .i32)
    = minPos (m ((c : Thread nD τ).loc main_arg0)) (m ((c : Thread nD τ).loc main_arg1)) := by
  funext j
  idx_vars j
  unfold Pipeline.afterTail₀
  unfold_abbrev_sides
  after_reads_at
  rw [left_pos, posTiles_at, pt_split]
  rfl

/-- The third result: each second point's least squared distance to the first cloud. -/
theorem dist2 (c : Dev nD) : (Pipeline.afterTail₀ cfgs (dats m) 0 (V0 m) [hostOps1] c main_v24 : Vec Ideal S4x4096 .f32)
    = minDist (m ((c : Thread nD τ).loc main_arg1)) (m ((c : Thread nD τ).loc main_arg0)) := by
  funext j
  idx_vars j
  unfold Pipeline.afterTail₀
  unfold_abbrev_sides
  after_reads_at
  rw [left_dist, distTiles_at, pt_split]
  rfl

/-- The fourth result: the first position in the first cloud at which it is reached. -/
theorem idx2 (c : Dev nD) : (Pipeline.afterTail₀ cfgs (dats m) 0 (V0 m) [hostOps1] c main_v27 : Vec Ideal S4x4096 .i32)
    = minPos (m ((c : Thread nD τ).loc main_arg1)) (m ((c : Thread nD τ).loc main_arg0)) := by
  funext j
  idx_vars j
  unfold Pipeline.afterTail₀
  unfold_abbrev_sides
  after_reads_at
  rw [left_pos, posTiles_at, pt_split]
  rfl

/-- The first argument is as it was. -/
theorem arg0_kept (c : Dev nD) : Pipeline.afterTail₀ cfgs (dats m) 0 (V0 m) [hostOps1] c main_arg0
    = m ((c : Thread nD τ).loc main_arg0) := by
  unfold Pipeline.afterTail₀
  unfold_abbrev_sides
  after_reads_simp
  refine (Pipeline.withArrays_of_ne (cfgs 0).spec c _ _ main_arg0 (by decide +kernel)).trans ?_
  unfold V0
  unfold_abbrev_sides
  after_reads_simp

/-- The second argument is as it was. -/
theorem arg1_kept (c : Dev nD) : Pipeline.afterTail₀ cfgs (dats m) 0 (V0 m) [hostOps1] c main_arg1
    = m ((c : Thread nD τ).loc main_arg1) := by
  unfold Pipeline.afterTail₀
  unfold_abbrev_sides
  after_reads_simp
  refine (Pipeline.withArrays_of_ne (cfgs 0).spec c _ _ main_arg1 (by decide +kernel)).trans ?_
  unfold V0
  unfold_abbrev_sides
  after_reads_simp

end Cert.KernelIdeal.Value

end
-- ==== Proof.lean ====
module

public import proofs.«01_k».proof.Defs
public import proofs.«01_k».proof.Proof.Gen.Kernel
public import proofs.«01_k».proof.Proof.Gen.Kernel.Frame
public import proofs.«01_k».proof.Proof.RefValue
public import proofs.«01_k».proof.Proof.Tail
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference runs to the end; its arguments and the semaphores are as they were. -/
theorem reference_frame : Cert.quiescent_ReferenceIdeal := by
  intro m g _
  hlo_run
  · exact fun _ => ⟨trivial, trivial⟩
  · exact sem_eq_zero_of_no_sems (by decide) r.2

/-- In exact arithmetic, from equal arguments, the four results of the kernel are the four results of the reference. -/
theorem equal_results : Cert.algebraic_KernelIdeal_ReferenceIdeal := by
  pair_intro
  · run_from Cert.KernelIdeal.Gen.run_main m g
    · exact KernelIdeal.Value.arg0_kept m c
    · exact KernelIdeal.Value.arg1_kept m c
  · hlo_run
    · exact (ReferenceIdeal.Value.min_d2 _ _).trans (KernelIdeal.Value.dist1 m c).symm
    · exact (funext (ReferenceIdeal.Value.argmin_d2 _ _)).trans (KernelIdeal.Value.idx1 m c).symm
    · exact (ReferenceIdeal.Value.min_d1 _ _).trans (KernelIdeal.Value.dist2 m c).symm
    · exact (funext (ReferenceIdeal.Value.argmin_d1 _ _)).trans (KernelIdeal.Value.idx2 m c).symm

/-- All five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    equal_results⟩

end Cert.Proof

end
